-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_and_weights [hPre_tokens_and_weights : Cert.Pre_tokens_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.1 = (fun _ => 1#1)
    ∧ (Cert.Pre_tokens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_weights [hPre_tokens_and_weights : Cert.Pre_tokens_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.1 = (fun _ => 1#1)
    ∧ (Cert.Pre_tokens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_tokens_and_weights [hKernelIdeal : Cert.KernelIdeal.Facts] [hPre_tokens_and_weights : Cert.Pre_tokens_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_tokens_and_weights [hReferenceIdeal : Cert.ReferenceIdeal.Facts] [hPre_tokens_and_weights : Cert.Pre_tokens_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_tokens_and_weights [hKernelIdeal : Cert.KernelIdeal.Facts] [hReferenceIdeal : Cert.ReferenceIdeal.Facts] [hPre_tokens_and_weights : Cert.Pre_tokens_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_tokens_and_weights : Cert.Pre_tokens_and_weights.Facts),
    quiescent_Kernel (hKernel := hKernel)
    ∧ quiescent_KernelIdeal (hKernelIdeal := hKernelIdeal)
    ∧ quiescent_KernelIdeal_pre_tokens_and_weights (hKernelIdeal := hKernelIdeal) (hPre_tokens_and_weights := hPre_tokens_and_weights)
    ∧ quiescent_ReferenceIdeal (hReferenceIdeal := hReferenceIdeal)
    ∧ quiescent_ReferenceIdeal_pre_tokens_and_weights (hReferenceIdeal := hReferenceIdeal) (hPre_tokens_and_weights := hPre_tokens_and_weights)
    ∧ preserves_Kernel_KernelIdeal
    ∧ algebraic_KernelIdeal_ReferenceIdeal_pre_tokens_and_weights (hKernelIdeal := hKernelIdeal) (hReferenceIdeal := hReferenceIdeal) (hPre_tokens_and_weights := hPre_tokens_and_weights)
-- ==== Pre_tokens_and_weights.lean ====
abbrev S256x2048 : Shape := ⟨2, ![256, 2048]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S256x2048 : S_.BroadcastsInDim S256x2048 (![] : Fin 0 → Fin S256x2048.rank)
  bcast_S_S64x64 : S_.BroadcastsInDim S64x64 (![] : Fin 0 → Fin S64x64.rank)
  bcast_S_S64x128 : S_.BroadcastsInDim S64x128 (![] : Fin 0 → Fin S64x128.rank)
  bcast_S_S128 : S_.BroadcastsInDim S128 (![] : Fin 0 → Fin S128.rank)
  bcast_S_S128x64 : S_.BroadcastsInDim S128x64 (![] : Fin 0 → Fin S128x64.rank)
  bcast_S_S64 : S_.BroadcastsInDim S64 (![] : Fin 0 → Fin S64.rank)

variable [Facts]

def fn_part2 {F : FTy → Type} [FloatOps F] (main_arg13 : FVec F S64x64 .f32) (main_v4 : IVec S256x2048 1) (main_v7 : IVec S64x64 1) (main_v10 : IVec S64x128 1) (main_v13 : IVec S128 1) (main_v16 : IVec S128x64 1) (main_v19 : IVec S64 1) (main_v22 : IVec S64 1) (main_v25 : IVec S64 1) (main_v28 : IVec S64x64 1) (main_v31 : IVec S64x64 1) (main_v34 : IVec S64x64 1) (main_v35 : FVec F S64x64 .f32) : IVec S256x2048 1 × IVec S64x64 1 × IVec S64x128 1 × IVec S128 1 × IVec S128x64 1 × IVec S64 1 × IVec S64 1 × IVec S64 1 × IVec S64x64 1 × IVec S64x64 1 × IVec S64x64 1 × IVec S64x64 1 × IVec S64x64 1 :=
  let main_cst_10 : FVec F S_ .f32 := constant S_ .f32 0x7F800000#32
  let main_v36 : FVec F S64x64 .f32 := broadcastInDim S64x64 ![] bcast_S_S64x64 main_cst_10
  let main_v37 : IVec S64x64 1 := cmpf .olt main_v35 main_v36
  let main_v38 : FVec F S64x64 .f32 := Host.absf main_arg13
  let main_cst_11 : FVec F S_ .f32 := constant S_ .f32 0x7F800000#32
  let main_v39 : FVec F S64x64 .f32 := broadcastInDim S64x64 ![] bcast_S_S64x64 main_cst_11
  let main_v40 : IVec S64x64 1 := cmpf .olt main_v38 main_v39
  (main_v4, main_v7, main_v10, main_v13, main_v16, main_v19, main_v22, main_v25, main_v28, main_v31, main_v34, main_v37, main_v40)

def fn_part1 {F : FTy → Type} [FloatOps F] (main_arg6 : FVec F S64 .f32) (main_arg7 : FVec F S64 .f32) (main_arg8 : FVec F S64x64 .f32) (main_arg9 : FVec F S64x64 .f32) (main_arg10 : FVec F S64x64 .f32) (main_arg11 : FVec F S64x64 .f32) (main_arg13 : FVec F S64x64 .f32) (main_v4 : IVec S256x2048 1) (main_v7 : IVec S64x64 1) (main_v10 : IVec S64x128 1) (main_v13 : IVec S128 1) (main_v16 : IVec S128x64 1) (main_v17 : FVec F S64 .f32) : IVec S256x2048 1 × IVec S64x64 1 × IVec S64x128 1 × IVec S128 1 × IVec S128x64 1 × IVec S64 1 × IVec S64 1 × IVec S64 1 × IVec S64x64 1 × IVec S64x64 1 × IVec S64x64 1 × IVec S64x64 1 × IVec S64x64 1 :=
  let main_cst_4 : FVec F S_ .f32 := constant S_ .f32 0x7F800000#32
  let main_v18 : FVec F S64 .f32 := broadcastInDim S64 ![] bcast_S_S64 main_cst_4
  let main_v19 : IVec S64 1 := cmpf .olt main_v17 main_v18
  let main_v20 : FVec F S64 .f32 := Host.absf main_arg6
  let main_cst_5 : FVec F S_ .f32 := constant S_ .f32 0x7F800000#32
  let main_v21 : FVec F S64 .f32 := broadcastInDim S64 ![] bcast_S_S64 main_cst_5
  let main_v22 : IVec S64 1 := cmpf .olt main_v20 main_v21
  let main_v23 : FVec F S64 .f32 := Host.absf main_arg7
  let main_cst_6 : FVec F S_ .f32 := constant S_ .f32 0x7F800000#32
  let main_v24 : FVec F S64 .f32 := broadcastInDim S64 ![] bcast_S_S64 main_cst_6
  let main_v25 : IVec S64 1 := cmpf .olt main_v23 main_v24
  let main_v26 : FVec F S64x64 .f32 := Host.absf main_arg8
  let main_cst_7 : FVec F S_ .f32 := constant S_ .f32 0x7F800000#32
  let main_v27 : FVec F S64x64 .f32 := broadcastInDim S64x64 ![] bcast_S_S64x64 main_cst_7
  let main_v28 : IVec S64x64 1 := cmpf .olt main_v26 main_v27
  let main_v29 : FVec F S64x64 .f32 := Host.absf main_arg9
  let main_cst_8 : FVec F S_ .f32 := constant S_ .f32 0x7F800000#32
  let main_v30 : FVec F S64x64 .f32 := broadcastInDim S64x64 ![] bcast_S_S64x64 main_cst_8
  let main_v31 : IVec S64x64 1 := cmpf .olt main_v29 main_v30
  let main_v32 : FVec F S64x64 .f32 := Host.absf main_arg10
  let main_cst_9 : FVec F S_ .f32 := constant S_ .f32 0x7F800000#32
  let main_v33 : FVec F S64x64 .f32 := broadcastInDim S64x64 ![] bcast_S_S64x64 main_cst_9
  let main_v34 : IVec S64x64 1 := cmpf .olt main_v32 main_v33
  let main_v35 : FVec F S64x64 .f32 := Host.absf main_arg11
  fn_part2 (F := F) main_arg13 main_v4 main_v7 main_v10 main_v13 main_v16 main_v19 main_v22 main_v25 main_v28 main_v31 main_v34 main_v35

def fn {F : FTy → Type} [FloatOps F] (main_arg0 : IVec S256x2048 32) (main_arg1 : FVec F S64x64 .f32) (main_arg2 : FVec F S64x128 .f32) (main_arg3 : FVec F S128 .f32) (main_arg4 : FVec F S128x64 .f32) (main_arg5 : FVec F S64 .f32) (main_arg6 : FVec F S64 .f32) (main_arg7 : FVec F S64 .f32) (main_arg8 : FVec F S64x64 .f32) (main_arg9 : FVec F S64x64 .f32) (main_arg10 : FVec F S64x64 .f32) (main_arg11 : FVec F S64x64 .f32) (main_arg12 : FVec F S64 .f32) (main_arg13 : FVec F S64x64 .f32) (main_arg14 : FVec F S64 .f32) : IVec S256x2048 1 × IVec S64x64 1 × IVec S64x128 1 × IVec S128 1 × IVec S128x64 1 × IVec S64 1 × IVec S64 1 × IVec S64 1 × IVec S64x64 1 × IVec S64x64 1 × IVec S64x64 1 × IVec S64x64 1 × IVec S64x64 1 :=
  let main_c : IVec S_ 32 := constantI S_ 32 0#32
  let main_v0 : IVec S256x2048 32 := broadcastInDim S256x2048 ![] bcast_S_S256x2048 main_c
  let main_v1 : IVec S256x2048 1 := cmpi .sge main_arg0 main_v0
  let main_c_0 : IVec S_ 32 := constantI S_ 32 64#32
  let main_v2 : IVec S256x2048 32 := broadcastInDim S256x2048 ![] bcast_S_S256x2048 main_c_0
  let main_v3 : IVec S256x2048 1 := cmpi .slt main_arg0 main_v2
  let main_v4 : IVec S256x2048 1 := andi main_v1 main_v3
  let main_v5 : FVec F S64x64 .f32 := Host.absf main_arg1
  let main_cst : FVec F S_ .f32 := constant S_ .f32 0x7F800000#32
  let main_v6 : FVec F S64x64 .f32 := broadcastInDim S64x64 ![] bcast_S_S64x64 main_cst
  let main_v7 : IVec S64x64 1 := cmpf .olt main_v5 main_v6
  let main_v8 : FVec F S64x128 .f32 := Host.absf main_arg2
  let main_cst_1 : FVec F S_ .f32 := constant S_ .f32 0x7F800000#32
  let main_v9 : FVec F S64x128 .f32 := broadcastInDim S64x128 ![] bcast_S_S64x128 main_cst_1
  let main_v10 : IVec S64x128 1 := cmpf .olt main_v8 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_v14 : FVec F S128x64 .f32 := Host.absf main_arg4
  let main_cst_3 : FVec F S_ .f32 := constant S_ .f32 0x7F800000#32
  let main_v15 : FVec F S128x64 .f32 := broadcastInDim S128x64 ![] bcast_S_S128x64 main_cst_3
  let main_v16 : IVec S128x64 1 := cmpf .olt main_v14 main_v15
  let main_v17 : FVec F S64 .f32 := Host.absf main_arg5
  fn_part1 (F := F) main_arg6 main_arg7 main_arg8 main_arg9 main_arg10 main_arg11 main_arg13 main_v4 main_v7 main_v10 main_v13 main_v16 main_v17
-- ==== Kernel.lean ====
abbrev S256x2048 : Shape := ⟨2, ![256, 2048]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2048x256 : Shape := ⟨2, ![2048, 256]⟩
abbrev S1x1x524288 : Shape := ⟨3, ![1, 1, 524288]⟩
abbrev S1x128 : Shape := ⟨2, ![1, 128]⟩
abbrev S1x64 : Shape := ⟨2, ![1, 64]⟩
abbrev S64x1 : Shape := ⟨2, ![64, 1]⟩
abbrev S64x256 : Shape := ⟨2, ![64, 256]⟩
abbrev S1x1x65536 : Shape := ⟨3, ![1, 1, 65536]⟩
abbrev S128x128 : Shape := ⟨2, ![128, 128]⟩
abbrev S1x1x256 : Shape := ⟨3, ![1, 1, 256]⟩
abbrev S1x256 : Shape := ⟨2, ![1, 256]⟩
abbrev S1x65536 : Shape := ⟨2, ![1, 65536]⟩
abbrev S64x4096 : Shape := ⟨2, ![64, 4096]⟩
abbrev S1x4096 : Shape := ⟨2, ![1, 4096]⟩
abbrev S128x4096 : Shape := ⟨2, ![128, 4096]⟩
abbrev S32x256 : Shape := ⟨2, ![32, 256]⟩
abbrev S16x256 : Shape := ⟨2, ![16, 256]⟩
abbrev S8x256 : Shape := ⟨2, ![8, 256]⟩
abbrev S256x64 : Shape := ⟨2, ![256, 64]⟩

abbrev nBuf : Space → Nat
  | .hbm => 25
  | .vmem => 19
  | .smem => 0
  | _ => 0

abbrev bufTy : (tb : Table) → Fin (tcTables nBuf tb) → BufTy
  | .hbm, ⟨0, _⟩ => ⟨S256x2048, .i32⟩
  | .hbm, ⟨1, _⟩ => ⟨S64x64, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S2048x256, .i32⟩
  | .hbm, ⟨16, _⟩ => ⟨S1x1x524288, .i32⟩
  | .hbm, ⟨17, _⟩ => ⟨S1x128, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S64x1, .f32⟩
  | .hbm, ⟨23, _⟩ => ⟨S64x256, .f32⟩
  | .hbm, ⟨24, _⟩ => ⟨S256x64, .f32⟩
  | .local _ .vmem, ⟨0, _⟩ => ⟨S1x1x65536, .i32⟩
  | .local _ .vmem, ⟨1, _⟩ => ⟨S1x1x65536, .i32⟩
  | .local _ .vmem, ⟨2, _⟩ => ⟨S64x64, .f32⟩
  | .local _ .vmem, ⟨3, _⟩ => ⟨S64x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S64x1, .f32⟩
  | .local _ .vmem, ⟨16, _⟩ => ⟨S64x256, .f32⟩
  | .local _ .vmem, ⟨17, _⟩ => ⟨S128x128, .bf16⟩
  | .local _ .vmem, ⟨18, _⟩ => ⟨S64x256, .f32⟩
  | _, _ => ⟨S256x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x65536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S256x2048 : Shape := ⟨2, ![256, 2048]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S256x2048x1 : Shape := ⟨3, ![256, 2048, 1]⟩
abbrev S256x2048x64 : Shape := ⟨3, ![256, 2048, 64]⟩
abbrev S256x2048x128 : Shape := ⟨3, ![256, 2048, 128]⟩
abbrev S1x1x128 : Shape := ⟨3, ![1, 1, 128]⟩
abbrev S1x1x64 : Shape := ⟨3, ![1, 1, 64]⟩
abbrev S256x2047x64 : Shape := ⟨3, ![256, 2047, 64]⟩
abbrev S256x2047 : Shape := ⟨2, ![256, 2047]⟩
abbrev S256x2047x1 : Shape := ⟨3, ![256, 2047, 1]⟩
abbrev S256x64x64 : Shape := ⟨3, ![256, 64, 64]⟩
abbrev S2047x256x64 : Shape := ⟨3, ![2047, 256, 64]⟩
abbrev S1x256x64 : Shape := ⟨3, ![1, 256, 64]⟩
abbrev S256x64 : Shape := ⟨2, ![256, 64]⟩
abbrev S256x64x1 : Shape := ⟨3, ![256, 64, 1]⟩
abbrev S256x1x64 : Shape := ⟨3, ![256, 1, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S256x2048, .i32⟩
  | .hbm, ⟨1, _⟩ => ⟨S64x64, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S_, .i32⟩
  | .hbm, ⟨16, _⟩ => ⟨S256x2048, .i32⟩
  | .hbm, ⟨17, _⟩ => ⟨S256x2048, .i1⟩
  | .hbm, ⟨18, _⟩ => ⟨S_, .i32⟩
  | .hbm, ⟨19, _⟩ => ⟨S256x2048, .i32⟩
  | .hbm, ⟨20, _⟩ => ⟨S256x2048, .i32⟩
  | .hbm, ⟨21, _⟩ => ⟨S256x2048, .i32⟩
  | .hbm, ⟨22, _⟩ => ⟨S256x2048x1, .i32⟩
  | .hbm, ⟨23, _⟩ => ⟨S256x2048x64, .f32⟩
  | .hbm, ⟨24, _⟩ => ⟨S256x2048x128, .f32⟩
  | .hbm, ⟨25, _⟩ => ⟨S1x1x128, .f32⟩
  | .hbm, ⟨26, _⟩ => ⟨S256x2048x128, .f32⟩
  | .hbm, ⟨27, _⟩ => ⟨S256x2048x128, .f32⟩
  | .hbm, ⟨28, _⟩ => ⟨S_, .f32⟩
  | .hbm, ⟨29, _⟩ => ⟨S256x2048x128, .f32⟩
  | .hbm, ⟨30, _⟩ => ⟨S256x2048x128, .f32⟩
  | .hbm, ⟨31, _⟩ => ⟨S256x2048x64, .f32⟩
  | .hbm, ⟨32, _⟩ => ⟨S1x1x64, .f32⟩
  | .hbm, ⟨33, _⟩ => ⟨S256x2048x64, .f32⟩
  | .hbm, ⟨34, _⟩ => ⟨S256x2048x64, .f32⟩
  | .hbm, ⟨35, _⟩ => ⟨S256x2048x64, .f32⟩
  | .hbm, ⟨36, _⟩ => ⟨S_, .f32⟩
  | .hbm, ⟨37, _⟩ => ⟨S256x2048, .f32⟩
  | .hbm, ⟨38, _⟩ => ⟨S256x2048x1, .f32⟩
  | .hbm, ⟨39, _⟩ => ⟨S_, .f32⟩
  | .hbm, ⟨40, _⟩ => ⟨S256x2048x1, .f32⟩
  | .hbm, ⟨41, _⟩ => ⟨S256x2048x1, .f32⟩
  | .hbm, ⟨42, _⟩ => ⟨S256x2048x64, .f32⟩
  | .hbm, ⟨43, _⟩ => ⟨S256x2048x64, .f32⟩
  | .hbm, ⟨44, _⟩ => ⟨S256x2048x64, .f32⟩
  | .hbm, ⟨45, _⟩ => ⟨S_, .f32⟩
  | .hbm, ⟨46, _⟩ => ⟨S256x2048, .f32⟩
  | .hbm, ⟨47, _⟩ => ⟨S256x2048x1, .f32⟩
  | .hbm, ⟨48, _⟩ => ⟨S_, .f32⟩
  | .hbm, ⟨49, _⟩ => ⟨S256x2048x1, .f32⟩
  | .hbm, ⟨50, _⟩ => ⟨S256x2048x1, .f32⟩
  | .hbm, ⟨51, _⟩ => ⟨S256x2048x64, .f32⟩
  | .hbm, ⟨52, _⟩ => ⟨S256x2048x64, .f32⟩
  | .hbm, ⟨53, _⟩ => ⟨S_, .f32⟩
  | .hbm, ⟨54, _⟩ => ⟨S256x2048x1, .f32⟩
  | .hbm, ⟨55, _⟩ => ⟨S256x2048x1, .f32⟩
  | .hbm, ⟨56, _⟩ => ⟨S256x2048x1, .f32⟩
  | .hbm, ⟨57, _⟩ => ⟨S256x2048x64, .f32⟩
  | .hbm, ⟨58, _⟩ => ⟨S256x2048x64, .f32⟩
  | .hbm, ⟨59, _⟩ => ⟨S1x1x64, .f32⟩
  | .hbm, ⟨60, _⟩ => ⟨S256x2048x64, .f32⟩
  | .hbm, ⟨61, _⟩ => ⟨S256x2048x64, .f32⟩
  | .hbm, ⟨62, _⟩ => ⟨S1x1x64, .f32⟩
  | .hbm, ⟨63, _⟩ => ⟨S256x2048x64, .f32⟩
  | .hbm, ⟨64, _⟩ => ⟨S256x2048x64, .f32⟩
  | .hbm, ⟨65, _⟩ => ⟨S256x2047x64, .f32⟩
  | .hbm, ⟨66, _⟩ => ⟨S256x2047x64, .f32⟩
  | .hbm, ⟨67, _⟩ => ⟨S256x2047x64, .f32⟩
  | .hbm, ⟨68, _⟩ => ⟨S256x2047x64, .f32⟩
  | .hbm, ⟨69, _⟩ => ⟨S_, .f32⟩
  | .hbm, ⟨70, _⟩ => ⟨S256x2047, .f32⟩
  | .hbm, ⟨71, _⟩ => ⟨S256x2047x1, .f32⟩
  | .hbm, ⟨72, _⟩ => ⟨S256x2047x1, .f32⟩
  | .hbm, ⟨73, _⟩ => ⟨S_, .f32⟩
  | .hbm, ⟨74, _⟩ => ⟨S256x2047x1, .f32⟩
  | .hbm, ⟨75, _⟩ => ⟨S256x2047x1, .f32⟩
  | .hbm, ⟨76, _⟩ => ⟨S256x2047x64, .f32⟩
  | .hbm, ⟨77, _⟩ => ⟨S256x2047x64, .f32⟩
  | .hbm, ⟨78, _⟩ => ⟨S_, .f32⟩
  | .hbm, ⟨79, _⟩ => ⟨S256x64x64, .f32⟩
  | .hbm, ⟨80, _⟩ => ⟨S2047x256x64, .f32⟩
  | .hbm, ⟨81, _⟩ => ⟨S2047x256x64, .f32⟩
  | .hbm, ⟨82, _⟩ => ⟨S_, .i32⟩
  | .hbm, ⟨83, _⟩ => ⟨S2047x256x64, .f32⟩
  | .hbm, ⟨84, _⟩ => ⟨S2047x256x64, .f32⟩
  | .hbm, ⟨85, _⟩ => ⟨S_, .i32⟩
  | .hbm, ⟨86, _⟩ => ⟨S256x64x64, .f32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S1x256x64, .f32⟩
  | .hbm, ⟨92, _⟩ => ⟨S256x64, .f32⟩
  | .hbm, ⟨93, _⟩ => ⟨S_, .i32⟩
  | .hbm, ⟨94, _⟩ => ⟨S_, .i32⟩
  | .hbm, ⟨95, _⟩ => ⟨S1x256x64, .f32⟩
  | .hbm, ⟨96, _⟩ => ⟨S256x64, .f32⟩
  | .hbm, ⟨97, _⟩ => ⟨S256x64, .f32⟩
  | .hbm, ⟨98, _⟩ => ⟨S256x64, .f32⟩
  | .hbm, ⟨99, _⟩ => ⟨S256x64x1, .f32⟩
  | .hbm, ⟨100, _⟩ => ⟨S256x1x64, .f32⟩
  | .hbm, ⟨101, _⟩ => ⟨S256x64x64, .f32⟩
  | .hbm, ⟨102, _⟩ => ⟨S256x64x64, .f32⟩
  | .hbm, ⟨103, _⟩ => ⟨S256x64x64, .f32⟩
  | .hbm, ⟨104, _⟩ => ⟨S256x64x64, .f32⟩
  | .hbm, ⟨105, _⟩ => ⟨S_, .i32⟩
  | .hbm, ⟨106, _⟩ => ⟨S_, .i32⟩
  | .hbm, ⟨107, _⟩ => ⟨S256x1x64, .f32⟩
  | .hbm, ⟨108, _⟩ => ⟨S256x64, .f32⟩
  | .hbm, ⟨109, _⟩ => ⟨S256x64, .f32⟩
  | .hbm, ⟨110, _⟩ => ⟨S256x64, .f32⟩
  | .hbm, ⟨111, _⟩ => ⟨S256x64, .f32⟩
  | .hbm, ⟨112, _⟩ => ⟨S1x64, .f32⟩
  | .hbm, ⟨113, _⟩ => ⟨S256x64, .f32⟩
  | .hbm, ⟨114, _⟩ => ⟨S256x64, .f32⟩
  | .hbm, ⟨115, _⟩ => ⟨S256x64, .f32⟩
  | .hbm, ⟨116, _⟩ => ⟨S1x64, .f32⟩
  | .hbm, ⟨117, _⟩ => ⟨S256x64, .f32⟩
  | .hbm, ⟨118, _⟩ => ⟨S256x64, .f32⟩
  | _, _ => ⟨S256x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_cst : Ref sig .tc := ⟨.hbm, 28, rfl⟩
abbrev main_call0_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_7 : Ref sig .tc := ⟨.hbm, 82, rfl⟩
abbrev main_v52_0 : Ref sig .tc := ⟨.hbm, 83, rfl⟩
abbrev main_v52_1 : Ref sig .tc := ⟨.hbm, 84, rfl⟩
abbrev main_v52_2 : Ref sig .tc := ⟨.hbm, 85, rfl⟩
abbrev main_v52_3 : Ref sig .tc := ⟨.hbm, 86, rfl⟩
abbrev main_while0c_c_11 : Ref sig .tc := ⟨.hbm, 87, rfl⟩
abbrev main_while0c_v65 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_v0 : Ref sig .tc := ⟨.hbm, 91, rfl⟩
abbrev main_while0b_v65 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_v0 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_v73 : Ref sig .tc := ⟨.hbm, 103, rfl⟩
abbrev main_while0b_v74 : Ref sig .tc := ⟨.hbm, 104, rfl⟩
abbrev main_while0b_c_11 : Ref sig .tc := ⟨.hbm, 105, rfl⟩
abbrev main_while0b_v75 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩

abbrev nD : Nat := 1
abbrev τ : Topo := Topo.v7x

variable {F : FTy → Type} [FloatOps F]

abbrev main_while0_count : Scf.Loop 32 := ⟨0#32, 2047#32, 1#32⟩
-- ==== Proof.RefFrame.lean ====
/- The reference's run leaves its arguments as they were, and its semaphores (there are none) at zero. -/
module

public import proofs.«01_k».proof.Proof.Gen.ReferenceIdeal
public import proofs.«01_k».proof.Proof.Gen.ReferenceIdeal.Run
public import Idealize.ShloMosaic.Lib.Quiescent

@[expose] public section

set_option maxRecDepth 8192

noncomputable section

namespace Cert.ReferenceIdeal.Value

open Cert.ReferenceIdeal Cert.ReferenceIdeal.Gen
open Idealize.ShloMosaic Idealize.ShloMosaic.TcCoe Idealize.SL.Sem
open Idealize.ShloMosaic.StableHlo

variable {F : FTy → Type} [FloatOps F]

/-- What the operations after the loop write. -/
abbrev postW : List (Ref sig .tc) :=
  [main_v53, main_v54, main_v55, main_v56, main_v57, main_v58, main_v59, main_v60, main_v61, main_v62, main_v63, main_v64]

theorem post_writes : (hostOps0_5 : List (HloOp τ sig (Elt F))).Forall fun op => op.writes ⊆ (postW.map (Proc.devRef (τ := τ) .tc)).toFinset :=
  StableHlo.forall_writes_sub_of_map rfl

/-- A buffer no trip writes. -/
def LoopKeeps (r : Ref sig .tc) : Prop :=
  r ∉ condOps_W ∧ r ∉ while0Ops0_W ∧ r ∉ while0Ops0_1_W ∧ r ∉ while0Ops0_2_W

instance (r : Ref sig .tc) : Decidable (LoopKeeps r) := by unfold LoopKeeps; infer_instance

/-- A buffer the operations before the loop do not write. -/
def PreKeeps (r : Ref sig .tc) : Prop :=
  r ∉ hostOps0_W ∧ r ∉ hostOps0_1_W ∧ r ∉ hostOps0_2_W ∧ r ∉ hostOps0_3_W ∧ r ∉ hostOps0_4_W

instance (r : Ref sig .tc) : Decidable (PreKeeps r) := by unfold PreKeeps; infer_instance

variable (m : (ℓ : Loc nD τ sig) → Buf (Elt F) ℓ) (ρ : Dev nD → PrngReg)

/-- A buffer no trip writes is, before every trip, what it was at the loop's entry. -/
theorem atK_keep (c : Dev nD) {r : Ref sig .tc} (h : LoopKeeps r) : ∀ k,
    atK m k c (Proc.devRef .tc r) = entryContents (preI (F := F)) m c (Proc.devRef .tc r)
  | 0 => rfl
  | k + 1 => by
    have ih := atK_keep c h k
    rw [atK, atTrip_succ, afterL_cons, afterL_cons, afterL_cons, afterL_nil,
      after_of_writes_sub while0Ops0_2 _ while0Ops0_2_writes h.2.2.2, after_of_writes_sub while0Ops0_1 _ while0Ops0_1_writes h.2.2.1,
      after_of_writes_sub while0Ops0 _ while0Ops0_writes h.2.1, after_of_writes_sub condOps _ condOps_writes h.1]
    exact ih

/-- A buffer nothing before the loop writes enters the loop as it was at launch. -/
theorem entry_keep (c : Dev nD) {r : Ref sig .tc} (h : PreKeeps r) :
    entryContents (preI (F := F)) m c (Proc.devRef .tc r) = m ((c.tc : Thread nD τ).loc r) := by
  rw [entryContents, afterL_cons, afterL_cons, afterL_cons, afterL_cons, afterL_cons, afterL_nil,
      after_of_writes_sub hostOps0_4 _ hostOps0_4_writes h.2.2.2.2, after_of_writes_sub hostOps0_3 _ hostOps0_3_writes h.2.2.2.1,
      after_of_writes_sub hostOps0_2 _ hostOps0_2_writes h.2.2.1, after_of_writes_sub hostOps0_1 _ hostOps0_1_writes h.2.1,
      after_of_writes_sub hostOps0 _ hostOps0_writes h.1]

/-- A buffer no operation writes ends as it was at launch. -/
theorem final_keep (c : Dev nD) {r : Ref sig .tc} (h : PreKeeps r) (h' : LoopKeeps r) (h'' : r ∉ postW) :
    finalContents condOps preI bodyI (postI (F := F)) 2047 m c (Proc.devRef .tc r) = m ((c.tc : Thread nD τ).loc r) := by
  rw [finalContents, afterL_cons, afterL_nil, after_of_writes_sub hostOps0_5 _ post_writes h'',
    after_of_writes_sub condOps _ condOps_writes h'.1]
  exact (atK_keep m c h' 2047).trans (entry_keep m c h)

/-- An argument ends as it was at launch, read off the run's end. -/
theorem arg_end {s : MemSt nD τ sig (Elt F)} (c : Dev nD)
    (hs : ∀ (c : Dev nD) (b : Ref sig .tc), (Proc.devRef .tc b : DevRef τ sig).isScoped = false →
      s.mem ((c.tc : Thread nD τ).loc b) = finalContents condOps preI bodyI postI 2047 m c (Proc.devRef .tc b))
    {r : Ref sig .tc} (h : PreKeeps r ∧ LoopKeeps r ∧ r ∉ postW) (hr : (Proc.devRef .tc r : DevRef τ sig).isScoped = false) :
    s.mem ((c.tc : Thread nD τ).loc r) = m ((c.tc : Thread nD τ).loc r) :=
  (hs c r hr).trans (final_keep m c h.1 h.2.1 h.2.2)

/-- The reference's frame: every argument unchanged, every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨arg_end m c h (by decide) rfl, arg_end m c h (by decide) rfl, arg_end m c h (by decide) rfl, arg_end m c h (by decide) rfl, arg_end m c h (by decide) rfl, arg_end m c h (by decide) rfl, arg_end m c h (by decide) rfl, arg_end m c h (by decide) rfl, arg_end m c h (by decide) rfl, arg_end m c h (by decide) rfl, arg_end m c h (by decide) rfl, arg_end m c h (by decide) rfl, arg_end m c h (by decide) rfl, arg_end m c h (by decide) rfl, arg_end m c h (by decide) rfl⟩,
    sem_eq_zero_of_no_sems rfl r.2⟩) (run_fold m ρ)

end Cert.ReferenceIdeal.Value

end
-- ==== Proof.Spec.lean ====
/- The problem's functions on extended reals, each of one token's row, and that they are real numbers where the weights are. -/
module

public import Idealize.ShloMosaic.Lib.Pointwise

@[expose] public section

noncomputable section

namespace Cert.Spec

open Idealize.ShloMosaic Finset

/-- A real number. -/
def IsNum (x : EReal) : Prop := ∃ r : ℝ, x = (r : EReal)

theorem IsNum.coe (r : ℝ) : IsNum (r : EReal) := ⟨r, rfl⟩
theorem IsNum.zero : IsNum 0 := ⟨0, rfl⟩
theorem IsNum.add {x y : EReal} : IsNum x → IsNum y → IsNum (x + y) := by
  rintro ⟨a, rfl⟩ ⟨b, rfl⟩; exact ⟨a + b, by push_cast; rfl⟩
theorem IsNum.sub {x y : EReal} : IsNum x → IsNum y → IsNum (x - y) := by
  rintro ⟨a, rfl⟩ ⟨b, rfl⟩; exact ⟨a - b, by push_cast; rfl⟩
theorem IsNum.mul {x y : EReal} : IsNum x → IsNum y → IsNum (x * y) := by
  rintro ⟨a, rfl⟩ ⟨b, rfl⟩; exact ⟨a * b, by push_cast; rfl⟩
theorem IsNum.max {x y : EReal} (hx : IsNum x) (hy : IsNum y) : IsNum (max x y) := by
  rcases max_choice x y with h | h <;> rw [h] <;> assumption
theorem IsNum.sum {ι : Type} (s : Finset ι) {f : ι → EReal} (h : ∀ i, IsNum (f i)) : IsNum (∑ i ∈ s, f i) := by
  classical
  induction s using Finset.induction_on with
  | empty => exact IsNum.zero
  | insert a s ha ih => rw [Finset.sum_insert ha]; exact (h a).add ih

theorem IsNum.coe_toReal {x : EReal} : IsNum x → ((x.toReal : ℝ) : EReal) = x := by
  rintro ⟨a, rfl⟩; rfl

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem IsNum.div {x y : EReal} (hx : IsNum x) (hy : IsNum y) (h : 0 < y) : IsNum (Ideal.div x y) := by
  obtain ⟨a, rfl⟩ := hx; obtain ⟨b, rfl⟩ := hy
  refine ⟨a * b⁻¹, ?_⟩
  rw [Ideal.div, if_neg h.ne', EReal.coe_mul, EReal.coe_inv]

theorem div_nonneg {x y : EReal} (hx : IsNum x) (hy : IsNum y) (h0 : 0 ≤ x) (h : 0 < y) : 0 ≤ Ideal.div x y := by
  obtain ⟨a, rfl⟩ := hx; obtain ⟨b, rfl⟩ := hy
  rw [Ideal.div, if_neg h.ne', ← EReal.coe_inv, ← EReal.coe_mul]
  have h0' : 0 ≤ a := by exact_mod_cast h0
  have h' : 0 < b := by exact_mod_cast h
  exact_mod_cast mul_nonneg h0' (inv_nonneg.2 h'.le)

theorem add_pos_num {x y : EReal} (hx : IsNum x) (hy : IsNum y) (h0 : 0 ≤ x) (h : 0 < y) : 0 < x + y := by
  obtain ⟨a, rfl⟩ := hx; obtain ⟨b, rfl⟩ := hy
  have h0' : 0 ≤ a := by exact_mod_cast h0
  have h' : 0 < b := by exact_mod_cast h
  rw [← EReal.coe_add]
  exact_mod_cast add_pos_of_nonneg_of_pos h0' h'

theorem IsNum.rsqrt {x : EReal} (hx : IsNum x) (h : 0 < x) : IsNum (Ideal.rsqrt x) := by
  obtain ⟨a, rfl⟩ := hx
  have h' : 0 < a := by exact_mod_cast h
  refine ⟨(Real.sqrt a)⁻¹, ?_⟩
  show (if a < 0 then (⊥ : EReal) else if a = 0 then ⊤ else (((Real.sqrt a)⁻¹ : ℝ) : EReal)) = _
  rw [if_neg h'.not_gt, if_neg h'.ne']

theorem IsNum.sqrt {x : EReal} (hx : IsNum x) (h : 0 ≤ x) : IsNum (Ideal.sqrt x) := by
  obtain ⟨a, rfl⟩ := hx
  have h' : 0 ≤ a := by exact_mod_cast h
  refine ⟨Real.sqrt a, ?_⟩
  show (if a < 0 then (⊥ : EReal) else ((Real.sqrt a : ℝ) : EReal)) = _
  rw [if_neg h'.not_gt]

theorem square_nonneg {x : EReal} (hx : IsNum x) : 0 ≤ x * x := by
  obtain ⟨a, rfl⟩ := hx
  rw [← EReal.coe_mul]; exact_mod_cast mul_self_nonneg a

/-! The constants. -/

/-- The row length, 64. -/
abbrev c64 : EReal := Ideal.ofBits .f32 0x42800000#32
/-- The variance's offset, 1e-5. -/
abbrev cEps : EReal := Ideal.ofBits .f32 0x3727C5AC#32
/-- The norm's least value, 1e-12. -/
abbrev cTiny : EReal := Ideal.ofBits .f32 0x2B8CBCCC#32

theorem ofBits_pos (e f : ℕ) (b : BitVec 32) (hs : b.extractLsb' 31 1 = 0#1) (he : (b.extractLsb' 23 8).toNat = e) (hf : (b.extractLsb' 0 23).toNat = f)
    (h0 : e ≠ 0) (h1 : e ≠ 255) : IsNum (Ideal.ofBits .f32 b) ∧ 0 < Ideal.ofBits .f32 b := by
  have h : Ideal.ofBits .f32 b = ((1 * (2 ^ 23 + f : ℕ) * (2 : ℝ) ^ ((e : ℤ) - (2 ^ (8 - 1) - 1) - (23 : ℕ)) : ℝ) : EReal) := by
    show Ideal.ieee 8 23 b = _
    unfold Ideal.ieee
    simp only [hs, he, hf]
    rw [if_neg (by omega), if_neg h0]
    simp
  refine ⟨⟨_, h⟩, ?_⟩
  rw [h]
  have : (0 : ℝ) < 1 * (2 ^ 23 + f : ℕ) * (2 : ℝ) ^ ((e : ℤ) - (2 ^ (8 - 1) - 1) - (23 : ℕ)) := by positivity
  exact_mod_cast this

theorem c64_pos : IsNum c64 ∧ 0 < c64 := ofBits_pos 133 0 _ (by decide) (by decide) (by decide) (by decide) (by decide)
theorem cEps_pos : IsNum cEps ∧ 0 < cEps := ofBits_pos 110 0x27C5AC _ (by decide) (by decide) (by decide) (by decide) (by decide)
theorem cTiny_pos : IsNum cTiny ∧ 0 < cTiny := ofBits_pos 87 0x0CBCCC _ (by decide) (by decide) (by decide) (by decide) (by decide)

/-! One token's row. -/

/-- The embedding and its feed-forward part. -/
def mixed (e : Fin 64 → EReal) (w1 : Fin 64 → Fin 128 → EReal) (b1 : Fin 128 → EReal) (w2 : Fin 128 → Fin 64 → EReal) (b2 : Fin 64 → EReal)
    (j : Fin 64) : EReal :=
  e j + (∑ h, max (∑ i, e i * w1 i h + b1 h) 0 * w2 h j + b2 j)

/-- A row less its mean. -/
def centred (x : Fin 64 → EReal) (j : Fin 64) : EReal := x j - Ideal.div (∑ i, x i) c64

/-- The normalised row, scaled and shifted. -/
def normed (x g b : Fin 64 → EReal) (j : Fin 64) : EReal :=
  centred x j * Ideal.rsqrt (Ideal.div (∑ i, centred x i * centred x i) c64 + cEps) * g j + b j

/-- A row times a matrix. -/
def project (w : Fin 64 → Fin 64 → EReal) (h : Fin 64 → EReal) (i : Fin 64) : EReal := ∑ k, w k i * h k

/-- A key of length one. -/
def unit (k : Fin 64 → EReal) (i : Fin 64) : EReal := Ideal.div (k i) (max (Ideal.sqrt (∑ j, k j * k j)) cTiny)

theorem mixed_isNum {e : Fin 64 → EReal} {w1 : Fin 64 → Fin 128 → EReal} {b1 : Fin 128 → EReal} {w2 : Fin 128 → Fin 64 → EReal} {b2 : Fin 64 → EReal}
    (he : ∀ i, IsNum (e i)) (hw1 : ∀ i h, IsNum (w1 i h)) (hb1 : ∀ h, IsNum (b1 h)) (hw2 : ∀ h i, IsNum (w2 h i)) (hb2 : ∀ i, IsNum (b2 i))
    (j : Fin 64) : IsNum (mixed e w1 b1 w2 b2 j) :=
  (he j).add ((IsNum.sum _ fun h => (((IsNum.sum _ fun i => (he i).mul (hw1 i h)).add (hb1 h)).max IsNum.zero).mul (hw2 h j)).add (hb2 j))

theorem centred_isNum {x : Fin 64 → EReal} (hx : ∀ i, IsNum (x i)) (j : Fin 64) : IsNum (centred x j) :=
  (hx j).sub ((IsNum.sum _ hx).div c64_pos.1 c64_pos.2)

theorem normed_isNum {x g b : Fin 64 → EReal} (hx : ∀ i, IsNum (x i)) (hg : ∀ i, IsNum (g i)) (hb : ∀ i, IsNum (b i)) (j : Fin 64) :
    IsNum (normed x g b j) := by
  have hc := centred_isNum hx
  have hs : IsNum (∑ i, centred x i * centred x i) := IsNum.sum _ fun i => (hc i).mul (hc i)
  have hs0 : 0 ≤ ∑ i, centred x i * centred x i := Finset.sum_nonneg fun i _ => square_nonneg (hc i)
  exact (((hc j).mul (((hs.div c64_pos.1 c64_pos.2).add cEps_pos.1).rsqrt
    (add_pos_num (hs.div c64_pos.1 c64_pos.2) cEps_pos.1 (div_nonneg hs c64_pos.1 hs0 c64_pos.2) cEps_pos.2))).mul (hg j)).add (hb j)

theorem project_isNum {w : Fin 64 → Fin 64 → EReal} {h : Fin 64 → EReal} (hw : ∀ i j, IsNum (w i j)) (hh : ∀ i, IsNum (h i)) (i : Fin 64) :
    IsNum (project w h i) := IsNum.sum _ fun k => (hw k i).mul (hh k)

theorem unit_isNum {k : Fin 64 → EReal} (hk : ∀ i, IsNum (k i)) (i : Fin 64) : IsNum (unit k i) :=
  (hk i).div (((IsNum.sum _ fun j => (hk j).mul (hk j)).sqrt (Finset.sum_nonneg fun j _ => square_nonneg (hk j))).max cTiny_pos.1)
    (lt_max_of_lt_right cTiny_pos.2)

/-! The problem. -/

/-- The weights. -/
structure Weights where
  (embed : Fin 64 → Fin 64 → EReal) (w1 : Fin 64 → Fin 128 → EReal) (b1 : Fin 128 → EReal) (w2 : Fin 128 → Fin 64 → EReal) (b2 : Fin 64 → EReal)
  (g lb : Fin 64 → EReal) (wk wv wq wrp : Fin 64 → Fin 64 → EReal) (brp : Fin 64 → EReal) (wout : Fin 64 → Fin 64 → EReal) (bout : Fin 64 → EReal)

/-- All weights but the last two layers' shifts are real numbers. -/
structure Weights.AreNums (w : Weights) : Prop where
  embed : ∀ i j, IsNum (w.embed i j)
  w1 : ∀ i j, IsNum (w.w1 i j)
  b1 : ∀ i, IsNum (w.b1 i)
  w2 : ∀ i j, IsNum (w.w2 i j)
  b2 : ∀ i, IsNum (w.b2 i)
  g : ∀ i, IsNum (w.g i)
  lb : ∀ i, IsNum (w.lb i)
  wk : ∀ i j, IsNum (w.wk i j)
  wv : ∀ i j, IsNum (w.wv i j)
  wq : ∀ i j, IsNum (w.wq i j)
  wrp : ∀ i j, IsNum (w.wrp i j)
  wout : ∀ i j, IsNum (w.wout i j)

namespace Weights

variable (w : Weights)

/-- The hidden row of token `v`. -/
def row (v : Fin 64) : Fin 64 → EReal := normed (mixed (w.embed v) w.w1 w.b1 w.w2 w.b2) w.g w.lb
/-- Its key, of length one. -/
def key (v : Fin 64) : Fin 64 → EReal := unit (project w.wk (w.row v))
/-- Its value. -/
def value (v : Fin 64) : Fin 64 → EReal := project w.wv (w.row v)
/-- Its query. -/
def query (v : Fin 64) : Fin 64 → EReal := project w.wq (w.row v)
/-- Its value through the last two layers' matrices. -/
def seen (v o : Fin 64) : EReal := ∑ x, (∑ y, w.wrp x y * w.wout y o) * w.value v x

/-- The same as real numbers. -/
def keyR (v i : Fin 64) : ℝ := (w.key v i).toReal
def valueR (v i : Fin 64) : ℝ := (w.value v i).toReal
def queryR (v i : Fin 64) : ℝ := (w.query v i).toReal
def seenR (v o : Fin 64) : ℝ := (w.seen v o).toReal

variable {w} (hw : w.AreNums)
include hw

theorem row_isNum (v i : Fin 64) : IsNum (w.row v i) :=
  normed_isNum (mixed_isNum (hw.embed v) hw.w1 hw.b1 hw.w2 hw.b2) hw.g hw.lb i
theorem key_isNum (v i : Fin 64) : IsNum (w.key v i) := unit_isNum (project_isNum hw.wk (row_isNum hw v)) i
theorem value_isNum (v i : Fin 64) : IsNum (w.value v i) := project_isNum hw.wv (row_isNum hw v) i
theorem query_isNum (v i : Fin 64) : IsNum (w.query v i) := project_isNum hw.wq (row_isNum hw v) i
theorem seen_isNum (v o : Fin 64) : IsNum (w.seen v o) :=
  IsNum.sum _ fun x => (IsNum.sum _ fun y => (hw.wrp x y).mul (hw.wout y o)).mul (value_isNum hw v x)

theorem keyR_coe (v i : Fin 64) : ((w.keyR v i : ℝ) : EReal) = w.key v i := (key_isNum hw v i).coe_toReal
theorem valueR_coe (v i : Fin 64) : ((w.valueR v i : ℝ) : EReal) = w.value v i := (value_isNum hw v i).coe_toReal
theorem queryR_coe (v i : Fin 64) : ((w.queryR v i : ℝ) : EReal) = w.query v i := (query_isNum hw v i).coe_toReal
theorem seenR_coe (v o : Fin 64) : ((w.seenR v o : ℝ) : EReal) = w.seen v o := (seen_isNum hw v o).coe_toReal

theorem seenR_eq (v o : Fin 64) : w.seenR v o = ∑ x, (∑ y, (w.wrp x y).toReal * (w.wout y o).toReal) * w.valueR v x := by
  refine EReal.coe_injective ?_
  rw [seenR_coe hw]
  simp only [seen, coe_sum, EReal.coe_mul, valueR_coe hw, (hw.wrp _ _).coe_toReal, (hw.wout _ _).coe_toReal]

end Weights

/-- A real factor goes into a sum with a real part. -/
theorem add_mul_coe (a r : ℝ) (x : EReal) : ((a : EReal) + x) * r = ((a * r : ℝ) : EReal) + x * r := by
  induction x with
  | coe x => rw [← EReal.coe_add, ← EReal.coe_mul, ← EReal.coe_mul, ← EReal.coe_add, add_mul]
  | top =>
    rcases lt_trichotomy r 0 with h | rfl | h
    · rw [EReal.coe_add_top, EReal.top_mul_coe_of_neg h, EReal.add_bot]
    · simp
    · rw [EReal.coe_add_top, EReal.top_mul_coe_of_pos h, EReal.coe_add_top]
  | bot =>
    rcases lt_trichotomy r 0 with h | rfl | h
    · rw [EReal.add_bot, EReal.bot_mul_coe_of_neg h, EReal.coe_add_top]
    · simp
    · rw [EReal.add_bot, EReal.bot_mul_coe_of_pos h, EReal.add_bot]

/-- A weighted sum of values goes through two matrices as the sum of the values gone through them. -/
theorem sums_swap (n : ℕ) (u : ℕ → ℝ) (V : ℕ → Fin 64 → ℝ) (P : Fin 64 → Fin 64 → ℝ) (O : Fin 64 → ℝ) :
    ∑ y, (∑ x, (∑ j ∈ Finset.range n, u j * V j x) * P x y) * O y = ∑ j ∈ Finset.range n, u j * ∑ x, (∑ y, P x y * O y) * V j x := by
  simp only [Finset.sum_mul, Finset.mul_sum]
  rw [Finset.sum_comm]
  simp only [Finset.sum_comm (s := (Finset.univ : Finset (Fin 64))) (t := Finset.range n)]
  refine Finset.sum_congr rfl fun j _ => Finset.sum_congr rfl fun x _ => Finset.sum_congr rfl fun y _ => ?_
  ring

/-- The last two layers of a weighted sum of values. -/
theorem last_layers {w : Weights} (hw : w.AreNums) (u : ℕ → ℝ) (tok : ℕ → Fin 64) (n : ℕ) (o : Fin 64) :
    ∑ y, (∑ x, ((∑ j ∈ Finset.range n, u j * w.valueR (tok j) x : ℝ) : EReal) * w.wrp x y + w.brp y) * w.wout y o + w.bout o
      = ((∑ j ∈ Finset.range n, u j * w.seenR (tok j) o : ℝ) : EReal) + (∑ y, w.wout y o * w.brp y + w.bout o) := by
  have hrow : ∀ y, (∑ x, ((∑ j ∈ Finset.range n, u j * w.valueR (tok j) x : ℝ) : EReal) * w.wrp x y + w.brp y) * w.wout y o
      = (((∑ x, (∑ j ∈ Finset.range n, u j * w.valueR (tok j) x) * (w.wrp x y).toReal) * (w.wout y o).toReal : ℝ) : EReal) + w.wout y o * w.brp y := by
    intro y
    have hs : ∑ x, ((∑ j ∈ Finset.range n, u j * w.valueR (tok j) x : ℝ) : EReal) * w.wrp x y
        = ((∑ x, (∑ j ∈ Finset.range n, u j * w.valueR (tok j) x) * (w.wrp x y).toReal : ℝ) : EReal) := by
      rw [coe_sum]
      exact Finset.sum_congr rfl fun x _ => by rw [EReal.coe_mul, (hw.wrp x y).coe_toReal]
    have h := add_mul_coe (∑ x, (∑ j ∈ Finset.range n, u j * w.valueR (tok j) x) * (w.wrp x y).toReal) (w.wout y o).toReal (w.brp y)
    rw [(hw.wout y o).coe_toReal] at h
    rw [hs, h, mul_comm (w.brp y)]
  rw [Finset.sum_congr rfl fun y _ => hrow y, Finset.sum_add_distrib, ← coe_sum, sums_swap, add_assoc]
  simp only [Weights.seenR_eq hw]

end Cert.Spec

end
-- ==== Proof.Pre.lean ====
/- What the precondition says: the tokens are below 64, and the weights it names are real numbers. -/
module

public import proofs.«01_k».proof.Pre_tokens_and_weights
public import proofs.«01_k».proof.Proof.Spec
public import Idealize.ShloMosaic.Lib.Pointwise

@[expose] public section

set_option maxRecDepth 16384

noncomputable section

namespace Cert.Pre_tokens_and_weights

open Idealize.ShloMosaic
open Cert.Spec

instance facts : Facts where
  bcast_S_S256x2048 := by decide
  bcast_S_S64x64 := by decide
  bcast_S_S64x128 := by decide
  bcast_S_S128 := by decide
  bcast_S_S128x64 := by decide
  bcast_S_S64 := by decide

/-- An array whose absolute values are below infinity holds real numbers. -/
theorem nums {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) : IsNum (x i) := by
  have hi : Ideal.cmp .olt (max (x i) (-(x i))) (Ideal.ofBits .f32 0x7F800000#32) = 1#1 := congrFun h i
  have htop : Ideal.ofBits .f32 0x7F800000#32 = ⊤ := by simp [Ideal.ofBits, Ideal.ieee]
  rw [htop] at hi
  generalize x i = y at hi ⊢
  induction y using EReal.rec with
  | coe r => exact ⟨r, rfl⟩
  | top => simp [Ideal.cmp] at hi
  | bot => simp [Ideal.cmp] at hi

/-- The token of a word. -/
def tokenOf (s : IVec S256x2048 32) (t : ℕ) (b : Fin 256) : Fin 64 :=
  ⟨(s (ix2 b ⟨t % 2048, Nat.mod_lt _ (by decide)⟩)).toNat % 64, Nat.mod_lt _ (by decide)⟩

theorem word_range (x : BitVec 32) (h : IntOp.andi (IntOp.cmpi .sge x 0#32) (IntOp.cmpi .slt x 64#32) = 1#1) : x.toNat < 64 := by
  have hb : (0#32).sle x = true ∧ x.slt 64#32 = true := by
    revert h
    simp only [IntOp.andi, IntOp.cmpi]
    cases (0#32).sle x <;> cases x.slt 64#32 <;> decide
  rw [BitVec.sle_iff_toInt_le, BitVec.slt_iff_toInt_lt] at hb
  have h0 : (0#32).toInt = 0 := by decide
  have h64 : (64#32).toInt = 64 := by decide
  rw [h0, h64] at hb
  have hx := BitVec.toInt_eq_toNat_cond x
  have hlt := x.isLt
  split at hx <;> omega

/-- In range, every word is its token. -/
theorem tokens (s : IVec S256x2048 32) (h : andi (cmpi .sge s (broadcastInDim S256x2048 ![] Facts.bcast_S_S256x2048 (constantI S_ 32 0#32)))
      (cmpi .slt s (broadcastInDim S256x2048 ![] Facts.bcast_S_S256x2048 (constantI S_ 32 64#32))) = fun _ => 1#1)
    (t : ℕ) (ht : t < 2048) (b : Fin 256) : s (ix2 b ⟨t, ht⟩) = BitVec.ofNat 32 (tokenOf s t b).val := by
  have hr := word_range _ (congrFun h (ix2 b ⟨t, ht⟩))
  have ht' : t % 2048 = t := Nat.mod_eq_of_lt ht
  refine BitVec.eq_of_toNat_eq ?_
  unfold tokenOf
  simp only [ht', BitVec.toNat_ofNat]
  omega

end Cert.Pre_tokens_and_weights

end
-- ==== Proof.Chain.lean ====
/- What one grid point's body computes, as a recursion over its 256 time steps: the token's column of the two tables by
   a one-hot product, the dot product with the running query, the two updates. Stated for any float values. -/
module

public import proofs.«01_k».proof.Proof.Gen.KernelIdeal.Skeleton

@[expose] public section

noncomputable section

namespace Cert.KernelIdeal.Chain

open Idealize.ShloMosaic Idealize.SL.Sem Cert.KernelIdeal.Gen

variable {F : FTy → Type} [FloatOps F]

/-- A step's 256 columns lie inside its group's 4096, whatever the step. -/
theorem slices_step (n : ℕ) : S64x4096.Slices ![0, 3840 - 256 * (n % 16)] S64x256 :=
  ⟨rfl, fun a => by
    match a with
    | ⟨0, _⟩ => exact Nat.le_refl 64
    | ⟨1, _⟩ => show 3840 - 256 * (n % 16) + 256 ≤ 4096; omega⟩

/-- A group's 4096 columns lie inside the block's 65536, whatever the group. -/
theorem slices_group (g : ℕ) : S1x65536.Slices ![0, 61440 - 4096 * g] S1x4096 :=
  ⟨rfl, fun a => by
    match a with
    | ⟨0, _⟩ => exact Nat.le_refl 1
    | ⟨1, _⟩ => show 61440 - 4096 * g + 4096 ≤ 65536; omega⟩

/-- The tokens of group `g` (16 time steps, the latest first). -/
def tokens (seq : IVec S1x65536 32) (g : ℕ) : IVec S1x4096 32 :=
  shapeCast S1x4096 (extractStridedSlice S1x4096 ![0, 61440 - 4096 * g] seq (slices_group g)) shapeCasts_S1x4096_S1x4096

/-- Row `r` of the one-hot matrix is 1 where the token is `r`. -/
def oneHot (seq : IVec S1x65536 32) (g : ℕ) : FVec F S64x4096 .bf16 :=
  truncf .bf16
    (select (cmpi .eq (broadcastTo S64x4096 (tokens seq g) broadcasts_S1x4096_S64x4096) (iota .tc S64x4096 32 [0] iota_S64x4096_d0_w32))
      (broadcast S64x4096 (Scalar.ofBits .f32 0x3F800000#32 : F .f32)) (broadcast S64x4096 (Scalar.ofBits .f32 0x00000000#32 : F .f32)))
    bitsLt_bf16_f32

/-- The tables' columns at a group's tokens: rows 0–63 the keys, rows 64–127 the values. -/
def columns (seq : IVec S1x65536 32) (tab : FVec F S128x128 .bf16) (g : ℕ) : FVec F S128x4096 .f32 :=
  matmul dot_S128x128_S128x4096_S128x4096_1_0_0_1_n_n none tab
    (concatenate S128x4096 0 [⟨S64x4096, oneHot seq g⟩, ⟨S64x4096, oneHot seq g⟩] concatenates_S64x4096_S64x4096_S128x4096_d0)
    (constant S128x4096 .f32 0x00000000#32)

/-- The keys of step `n`, one column per batch entry. -/
def keyAt (seq : IVec S1x65536 32) (tab : FVec F S128x128 .bf16) (n : ℕ) : FVec F S64x256 .f32 :=
  extractStridedSlice S64x256 ![0, 3840 - 256 * (n % 16)]
    (extractStridedSlice S64x4096 ![0, 0] (columns seq tab (n / 16)) slices_S128x4096_o0_0_S64x4096) (slices_step n)

/-- The values of step `n`, one column per batch entry. -/
def valueAt (seq : IVec S1x65536 32) (tab : FVec F S128x128 .bf16) (n : ℕ) : FVec F S64x256 .f32 :=
  extractStridedSlice S64x256 ![0, 3840 - 256 * (n % 16)]
    (extractStridedSlice S64x4096 ![64, 0] (columns seq tab (n / 16)) slices_S128x4096_o64_0_S64x4096) (slices_step n)

/-- 64 rows to 32. -/
def fold32 (p : FVec F S64x256 .f32) : FVec F S32x256 .f32 :=
  addf (extractStridedSlice S32x256 ![0, 0] p slices_S64x256_o0_0_S32x256) (extractStridedSlice S32x256 ![32, 0] p slices_S64x256_o32_0_S32x256)

/-- 32 rows to 16. -/
def fold16 (p : FVec F S32x256 .f32) : FVec F S16x256 .f32 :=
  addf (extractStridedSlice S16x256 ![0, 0] p slices_S32x256_o0_0_S16x256) (extractStridedSlice S16x256 ![16, 0] p slices_S32x256_o16_0_S16x256)

/-- 16 rows to 8. -/
def fold8 (p : FVec F S16x256 .f32) : FVec F S8x256 .f32 :=
  addf (extractStridedSlice S8x256 ![0, 0] p slices_S16x256_o0_0_S8x256) (extractStridedSlice S8x256 ![8, 0] p slices_S16x256_o8_0_S8x256)

/-- Eight rows added to themselves rotated by `r`. -/
def turn (r : BitVec 32) (p : FVec F S8x256 .f32) : FVec F S8x256 .f32 :=
  addf p (dynamicRotate 0 r none p rotates_S8x256_d0)

/-- Every row the sum of the 64. -/
def colSum (p : FVec F S64x256 .f32) : FVec F S8x256 .f32 :=
  turn 1#32 (turn 2#32 (turn 4#32 (fold8 (fold16 (fold32 p)))))

/-- Eight rows, eight times. -/
def rep (m : FVec F S8x256 .f32) : FVec F S64x256 .f32 :=
  concatenate S64x256 0 [⟨S8x256, m⟩, ⟨S8x256, m⟩, ⟨S8x256, m⟩, ⟨S8x256, m⟩, ⟨S8x256, m⟩, ⟨S8x256, m⟩, ⟨S8x256, m⟩, ⟨S8x256, m⟩]
    concatenates_S8x256_S8x256_S8x256_S8x256_S8x256_S8x256_S8x256_S8x256_S64x256_d0

/-- A step's dot product of key and query; the block's first step is multiplied by `w`. -/
def dotAt (w : F .f32) : ℕ → FVec F S64x256 .f32 → FVec F S64x256 .f32 → FVec F S64x256 .f32
  | 0, k, z => rep (mulf (colSum (mulf k z)) (broadcast S8x256 w))
  | _ + 1, k, z => rep (colSum (mulf k z))

/-- The running query after `n` steps. -/
def queryAfter (w : F .f32) (seq : IVec S1x65536 32) (tab : FVec F S128x128 .bf16) (z : FVec F S64x256 .f32) : ℕ → FVec F S64x256 .f32
  | 0 => z
  | n + 1 => subf (queryAfter w seq tab z n)
      (mulf (dotAt w n (keyAt seq tab n) (queryAfter w seq tab z n)) (keyAt seq tab n))

/-- What the steps up to `n` add to the output. -/
def outAfter (w : F .f32) (seq : IVec S1x65536 32) (tab : FVec F S128x128 .bf16) (z : FVec F S64x256 .f32) : ℕ → FVec F S64x256 .f32
  | 0 => broadcast S64x256 (Scalar.ofBits .f32 0x00000000#32 : F .f32)
  | n + 1 => addf (outAfter w seq tab z n)
      (mulf (dotAt w n (keyAt seq tab n) (queryAfter w seq tab z n)) (valueAt seq tab n))

end Cert.KernelIdeal.Chain

end
-- ==== Proof.Delta.lean ====
/- The delta rule read backwards. A matrix that learns `k ↦ v` one pair at a time, applied to a query, is a sum of the
   values weighted by dot products of the keys with a query that forgets each key as the pairs are walked from the last. -/
module

public import Idealize.ShloMosaic.Lib.Pointwise

@[expose] public section

noncomputable section

namespace Cert.Delta

open Finset

variable {α β : Type} [Fintype α]

/-- The matrix after `t` pairs. -/
def memory (k : ℕ → α → ℝ) (v : ℕ → β → ℝ) : ℕ → β → α → ℝ
  | 0 => fun _ _ => 0
  | t + 1 => fun o i => memory k v t o i + (v t o - ∑ j, memory k v t o j * k t j) * k t i

/-- The query after `n` pairs have been walked, `κ n` being the `n`-th of them; `d` tells which of them count. -/
def query (κ : ℕ → α → ℝ) (d : ℕ → ℝ) (q : α → ℝ) : ℕ → α → ℝ
  | 0 => q
  | n + 1 => fun i => query κ d q n i - (∑ j, κ n j * query κ d q n j) * d n * κ n i

/-- The weight of the `n`-th pair walked. -/
def weight (κ : ℕ → α → ℝ) (d : ℕ → ℝ) (q : α → ℝ) (n : ℕ) : ℝ :=
  (∑ j, κ n j * query κ d q n j) * d n

theorem query_succ (κ : ℕ → α → ℝ) (d : ℕ → ℝ) (q : α → ℝ) (n : ℕ) (i : α) :
    query κ d q (n + 1) i = query κ d q n i - weight κ d q n * κ n i := rfl

/-- One pair moved from the matrix to the query. -/
theorem memory_succ_apply (k : ℕ → α → ℝ) (v : ℕ → β → ℝ) (t : ℕ) (o : β) (z : α → ℝ) :
    ∑ i, memory k v (t + 1) o i * z i
      = (∑ i, memory k v t o i * (z i - (∑ j, k t j * z j) * k t i)) + (∑ j, k t j * z j) * v t o := by
  have h1 : ∑ i, memory k v (t + 1) o i * z i
      = ∑ i, memory k v t o i * z i + (v t o - ∑ j, memory k v t o j * k t j) * ∑ j, k t j * z j := by
    rw [Finset.mul_sum, ← Finset.sum_add_distrib]
    refine Finset.sum_congr rfl fun i _ => ?_
    show (memory k v t o i + (v t o - ∑ j, memory k v t o j * k t j) * k t i) * z i = _
    ring
  have h2 : ∑ i, memory k v t o i * (z i - (∑ j, k t j * z j) * k t i)
      = ∑ i, memory k v t o i * z i - (∑ j, memory k v t o j * k t j) * ∑ j, k t j * z j := by
    rw [Finset.sum_mul, ← Finset.sum_sub_distrib]
    refine Finset.sum_congr rfl fun i _ => ?_
    ring
  rw [h1, h2]; ring

/-- The first pair walked does not count, every later one does. -/
def counts (n : ℕ) : ℝ := if n = 0 then 0 else 1

/-- The pairs walked backwards from position `T`. -/
def back {γ : Type} (T : ℕ) (f : ℕ → γ) (n : ℕ) : γ := f (T - n)

/-- After `n + 1` steps of the walk the matrix has lost `n` pairs and the sum has gained them. -/
theorem walk (k : ℕ → α → ℝ) (v : ℕ → β → ℝ) (q : α → ℝ) (T : ℕ) (o : β) (n : ℕ) (h : n ≤ T) :
    ∑ i, memory k v T o i * q i
      = (∑ i, memory k v (T - n) o i * query (back T k) counts q (n + 1) i)
        + ∑ j ∈ range (n + 1), weight (back T k) counts q j * back T v j o := by
  induction n with
  | zero =>
    simp [query, weight, counts]
  | succ n ih =>
    obtain ⟨t, ht⟩ : ∃ t, T - n = t + 1 := ⟨T - n - 1, by omega⟩
    have ht' : T - (n + 1) = t := by omega
    rw [ih (by omega), ht, ht', memory_succ_apply, Finset.sum_range_succ _ (n + 1)]
    have hw : weight (back T k) counts q (n + 1) = ∑ j, k t j * query (back T k) counts q (n + 1) j := by
      simp [weight, counts, back, ht']
    have hq : ∀ i, query (back T k) counts q (n + 1 + 1) i
        = query (back T k) counts q (n + 1) i - (∑ j, k t j * query (back T k) counts q (n + 1) j) * k t i := by
      intro i
      rw [query_succ, hw]; simp [back, ht']
    have hv : back T v (n + 1) o = v t o := by simp [back, ht']
    simp only [hq, hw, hv]
    ring

/-- The matrix of `T` pairs applied to the query, as the walk's sum. -/
theorem memory_apply (k : ℕ → α → ℝ) (v : ℕ → β → ℝ) (q : α → ℝ) (T : ℕ) (o : β) :
    ∑ i, memory k v T o i * q i = ∑ j ∈ range (T + 1), weight (back T k) counts q j * back T v j o := by
  rw [walk k v q T o T le_rfl]
  simp [memory]

end Cert.Delta

end
-- ==== Proof.Steps.lean ====
/- One grid point's steps in exact arithmetic: every column is the backward walk of the delta rule over its own tokens. -/
module

public import proofs.«01_k».proof.Proof.Chain
public import proofs.«01_k».proof.Proof.Delta
public import proofs.«01_k».proof.Proof.Spec

@[expose] public section

set_option maxRecDepth 16384

noncomputable section

namespace Cert.KernelIdeal.Chain

open Idealize.ShloMosaic Idealize.SL.Sem Cert.KernelIdeal.Gen Cert.Spec

/-! The column sum. -/

theorem fold32_sum (p : FVec Ideal S64x256 .f32) (b : Fin 256) : ∑ i : Fin 32, fold32 p (ix2 i b) = ∑ i : Fin 64, p (ix2 i b) := by
  rw [Fin.sum_univ_two_halves 32 32 rfl, ← Finset.sum_add_distrib]
  refine Finset.sum_congr rfl fun i _ => ?_
  pointwise [fold32]

theorem fold16_sum (p : FVec Ideal S32x256 .f32) (b : Fin 256) : ∑ i : Fin 16, fold16 p (ix2 i b) = ∑ i : Fin 32, p (ix2 i b) := by
  rw [Fin.sum_univ_two_halves 16 16 rfl, ← Finset.sum_add_distrib]
  refine Finset.sum_congr rfl fun i _ => ?_
  pointwise [fold16]

theorem fold8_sum (p : FVec Ideal S16x256 .f32) (b : Fin 256) : ∑ i : Fin 8, fold8 p (ix2 i b) = ∑ i : Fin 16, p (ix2 i b) := by
  rw [Fin.sum_univ_two_halves 8 8 rfl, ← Finset.sum_add_distrib]
  refine Finset.sum_congr rfl fun i _ => ?_
  pointwise [fold8]

theorem turns_sum (p : FVec Ideal S8x256 .f32) (a : Fin 8) (b : Fin 256) :
    turn 1#32 (turn 2#32 (turn 4#32 p)) (ix2 a b) = ∑ i : Fin 8, p (ix2 i b) := by
  pointwise [turn]
  rw [Fin.sum_univ_eight]
  show _ = p (ix2 ⟨0, by omega⟩ b) + p (ix2 ⟨1, by omega⟩ b) + p (ix2 ⟨2, by omega⟩ b) + p (ix2 ⟨3, by omega⟩ b) + p (ix2 ⟨4, by omega⟩ b)
    + p (ix2 ⟨5, by omega⟩ b) + p (ix2 ⟨6, by omega⟩ b) + p (ix2 ⟨7, by omega⟩ b)
  obtain ⟨n, hn⟩ := a
  interval_cases n <;> simp only [Nat.reduceAdd, Nat.reduceSub, Nat.reduceMod] <;> ac_rfl

/-- Every row of the column sum is the sum of the column. -/
theorem colSum_apply (p : FVec Ideal S64x256 .f32) (a : Fin 8) (b : Fin 256) : colSum p (ix2 a b) = ∑ i : Fin 64, p (ix2 i b) := by
  unfold colSum
  rw [turns_sum, fold8_sum, fold16_sum, fold32_sum]

theorem rep_apply (p : FVec Ideal S8x256 .f32) (x : Fin 256 → EReal) (h : ∀ a b, p (ix2 a b) = x b) (i : Fin 64) (b : Fin 256) :
    rep p (ix2 i b) = x b := by
  pointwise [rep]
  split_ifs <;> exact h _ _

/-- A step's weight. -/
theorem dotAt_apply (w : EReal) (n : ℕ) (k z : FVec Ideal S64x256 .f32) (i : Fin 64) (b : Fin 256) :
    dotAt (F := Ideal) w n k z (ix2 i b) = (∑ j : Fin 64, k (ix2 j b) * z (ix2 j b)) * (if n = 0 then w else 1) := by
  cases n with
  | zero =>
    refine rep_apply _ (fun b => (∑ j : Fin 64, k (ix2 j b) * z (ix2 j b)) * (if 0 = 0 then w else 1)) (fun a b => ?_) i b
    pointwise
    rw [colSum_apply]
    pointwise
  | succ n =>
    refine rep_apply _ (fun b => (∑ j : Fin 64, k (ix2 j b) * z (ix2 j b)) * (if n + 1 = 0 then w else 1)) (fun a b => ?_) i b
    rw [colSum_apply, if_neg (Nat.succ_ne_zero n), mul_one]
    pointwise

/-! The tables' columns. -/

/-- The sum over a one-hot column is the entry at its token. -/
theorem oneHot_sum (s : BitVec 32) (t : Fin 64) (h : s = BitVec.ofNat 32 t.val) (f : Fin 64 → EReal) :
    (∑ x : Fin 64, Scalar.select (IntOp.cmpi CmpIPredicate.eq s (BitVec.ofNat 32 x.val)) (f x) 0) = f t := by
  subst h
  rw [Finset.sum_eq_single t]
  · simp [IntOp.cmpi, Scalar.select]
  · intro x _ hx
    have hne : BitVec.ofNat 32 t.val ≠ BitVec.ofNat 32 x.val := by
      intro he
      have := congrArg BitVec.toNat he
      simp only [BitVec.toNat_ofNat] at this
      have h1 := t.isLt; have h2 := x.isLt
      exact hx (Fin.ext (by omega))
    simp [IntOp.cmpi, Scalar.select, beq_eq_false_iff_ne.2 hne]
  · intro hx; exact absurd (Finset.mem_univ t) hx

/-- The tables hold the keys `K` and the values `W` of the 64 tokens, and nothing in the remainder's columns. -/
structure IsTables (tab : FVec Ideal S128x128 .bf16) (K W : Fin 64 → Fin 64 → ℝ) : Prop where
  key : ∀ (i v : Fin 64), tab (ix2 ⟨i.val, by omega⟩ ⟨v.val, by omega⟩) = ((K v i : ℝ) : EReal)
  keyRest : ∀ (i v : Fin 64), tab (ix2 ⟨i.val, by omega⟩ ⟨64 + v.val, by omega⟩) = 0
  value : ∀ (i v : Fin 64), tab (ix2 ⟨64 + i.val, by omega⟩ ⟨v.val, by omega⟩) = ((W v i : ℝ) : EReal)
  valueRest : ∀ (i v : Fin 64), tab (ix2 ⟨64 + i.val, by omega⟩ ⟨64 + v.val, by omega⟩) = 0

/-- The block's word at step `n` of entry `b`. -/
def wordAt (seq : IVec S1x65536 32) (n : ℕ) (hn : n < 256) (b : Fin 256) : BitVec 32 :=
  seq (ix2 0 ⟨65280 - 256 * n + b.val, by omega⟩)

theorem keyAt_apply {tab : FVec Ideal S128x128 .bf16} {K W : Fin 64 → Fin 64 → ℝ} (hT : IsTables tab K W) (seq : IVec S1x65536 32)
    (n : ℕ) (hn : n < 256) (b : Fin 256) (t : Fin 64) (ht : wordAt seq n hn b = BitVec.ofNat 32 t.val) (i : Fin 64) :
    keyAt seq tab n (ix2 i b) = ((K t i : ℝ) : EReal) := by
  pointwise [keyAt, columns, oneHot, tokens]
  have hs : seq (ix2 0 ⟨61440 - 4096 * (n / 16) + (3840 - 256 * (n % 16) + b.val), by omega⟩) = BitVec.ofNat 32 t.val := by
    rw [← ht]; unfold wordAt; congr 3; omega
  rw [oneHot_sum _ t hs (fun x => tab (ix2 ⟨i.val, by omega⟩ ⟨x.val, by omega⟩)),
    oneHot_sum _ t hs (fun x => tab (ix2 ⟨i.val, by omega⟩ ⟨64 + x.val, by omega⟩)), hT.key, hT.keyRest, add_zero]

theorem valueAt_apply {tab : FVec Ideal S128x128 .bf16} {K W : Fin 64 → Fin 64 → ℝ} (hT : IsTables tab K W) (seq : IVec S1x65536 32)
    (n : ℕ) (hn : n < 256) (b : Fin 256) (t : Fin 64) (ht : wordAt seq n hn b = BitVec.ofNat 32 t.val) (i : Fin 64) :
    valueAt seq tab n (ix2 i b) = ((W t i : ℝ) : EReal) := by
  pointwise [valueAt, columns, oneHot, tokens]
  have hs : seq (ix2 0 ⟨61440 - 4096 * (n / 16) + (3840 - 256 * (n % 16) + b.val), by omega⟩) = BitVec.ofNat 32 t.val := by
    rw [← ht]; unfold wordAt; congr 3; omega
  rw [oneHot_sum _ t hs (fun x => tab (ix2 ⟨64 + i.val, by omega⟩ ⟨x.val, by omega⟩)),
    oneHot_sum _ t hs (fun x => tab (ix2 ⟨64 + i.val, by omega⟩ ⟨64 + x.val, by omega⟩)), hT.value, hT.valueRest, add_zero]

/-! The recursion. -/

section Walk

variable {tab : FVec Ideal S128x128 .bf16} {K W : Fin 64 → Fin 64 → ℝ} (hT : IsTables tab K W) (seq : IVec S1x65536 32)
  (tok : ℕ → Fin 256 → Fin 64) (q : Fin 256 → Fin 64 → ℝ) (start : ℕ) (w : EReal) (z : FVec Ideal S64x256 .f32)

/-- Entry `b`'s query after `n` of the run's steps. -/
abbrev walkQuery (K : Fin 64 → Fin 64 → ℝ) (tok : ℕ → Fin 256 → Fin 64) (q : Fin 256 → Fin 64 → ℝ) (b : Fin 256) (n : ℕ) : Fin 64 → ℝ :=
  Delta.query (fun n => K (tok n b)) Delta.counts (q b) n

/-- Entry `b`'s weight at step `n` of the run. -/
abbrev walkWeight (K : Fin 64 → Fin 64 → ℝ) (tok : ℕ → Fin 256 → Fin 64) (q : Fin 256 → Fin 64 → ℝ) (b : Fin 256) (n : ℕ) : ℝ :=
  Delta.weight (fun n => K (tok n b)) Delta.counts (q b) n

/-- What the first `n` of the run's steps add up to for entry `b`. -/
abbrev walkSum (K W : Fin 64 → Fin 64 → ℝ) (tok : ℕ → Fin 256 → Fin 64) (q : Fin 256 → Fin 64 → ℝ) (b : Fin 256) (n : ℕ) (o : Fin 64) : ℝ :=
  ∑ j ∈ Finset.range n, walkWeight K tok q b j * W (tok j b) o

include hT in
theorem dotAt_walk (hseq : ∀ n hn b, wordAt seq n hn b = BitVec.ofNat 32 (tok (start + n) b).val) (hw : w = ((Delta.counts start : ℝ) : EReal))
    (n : ℕ) (hn : n < 256) (y : FVec Ideal S64x256 .f32)
    (hy : ∀ i b, y (ix2 i b) = ((walkQuery K tok q b (start + n) i : ℝ) : EReal)) (i : Fin 64) (b : Fin 256) :
    dotAt (F := Ideal) w n (keyAt seq tab n) y (ix2 i b) = ((walkWeight K tok q b (start + n) : ℝ) : EReal) := by
  rw [dotAt_apply]
  have hc : (if n = 0 then w else 1) = ((Delta.counts (start + n) : ℝ) : EReal) := by
    split_ifs with h
    · rw [hw, h, Nat.add_zero]
    · unfold Delta.counts; rw [if_neg (by omega)]; rfl
  rw [hc]
  show _ = (((∑ j, K (tok (start + n) b) j * walkQuery K tok q b (start + n) j) * Delta.counts (start + n) : ℝ) : EReal)
  rw [EReal.coe_mul, coe_sum]
  congr 1
  refine Finset.sum_congr rfl fun j _ => ?_
  rw [keyAt_apply hT seq n hn b _ (hseq n hn b), hy, EReal.coe_mul]

include hT in
theorem queryAfter_walk (hseq : ∀ n hn b, wordAt seq n hn b = BitVec.ofNat 32 (tok (start + n) b).val) (hw : w = ((Delta.counts start : ℝ) : EReal))
    (hz : ∀ i b, z (ix2 i b) = ((walkQuery K tok q b start i : ℝ) : EReal)) (n : ℕ) (hn : n ≤ 256) :
    ∀ i b, queryAfter (F := Ideal) w seq tab z n (ix2 i b) = ((walkQuery K tok q b (start + n) i : ℝ) : EReal) := by
  induction n with
  | zero => exact hz
  | succ n ih =>
    intro i b
    have hy := ih (by omega)
    show subf (queryAfter (F := Ideal) w seq tab z n) (mulf _ _) (ix2 i b) = ((walkQuery K tok q b (start + n + 1) i : ℝ) : EReal)
    rw [walkQuery, Delta.query_succ, EReal.coe_sub, EReal.coe_mul, ← dotAt_walk hT seq tok q start w hseq hw n (by omega) _ hy i b,
      ← keyAt_apply hT seq n (by omega) b _ (hseq n (by omega) b) i, ← hy i b]
    rfl

include hT in
theorem outAfter_walk (hseq : ∀ n hn b, wordAt seq n hn b = BitVec.ofNat 32 (tok (start + n) b).val) (hw : w = ((Delta.counts start : ℝ) : EReal))
    (hz : ∀ i b, z (ix2 i b) = ((walkQuery K tok q b start i : ℝ) : EReal)) (x : FVec Ideal S64x256 .f32)
    (hx : ∀ i b, x (ix2 i b) = ((walkSum K W tok q b start i : ℝ) : EReal)) (n : ℕ) (hn : n ≤ 256) (i : Fin 64) (b : Fin 256) :
    x (ix2 i b) + outAfter (F := Ideal) w seq tab z n (ix2 i b) = ((walkSum K W tok q b (start + n) i : ℝ) : EReal) := by
  induction n with
  | zero =>
    show x (ix2 i b) + Ideal.ofBits .f32 0x00000000#32 = _
    rw [Ideal.ofBits_zero_f32, add_zero, hx, Nat.add_zero]
  | succ n ih =>
    have hy := queryAfter_walk hT seq tok q start w z hseq hw hz n (by omega)
    show x (ix2 i b) + addf (outAfter (F := Ideal) w seq tab z n) (mulf _ _) (ix2 i b) = ((walkSum K W tok q b (start + n + 1) i : ℝ) : EReal)
    rw [walkSum, Finset.sum_range_succ, EReal.coe_add, EReal.coe_mul, ← ih (by omega), ← dotAt_walk hT seq tok q start w hseq hw n (by omega) _ hy i b,
      ← valueAt_apply hT seq n (by omega) b _ (hseq n (by omega) b) i, add_assoc]
    rfl

end Walk

end Cert.KernelIdeal.Chain

end
-- ==== Proof.Pieces.lean ====
/- The pieces one grid point's body writes are the recursion's end after 256 steps: the kernel compares the two. -/
module

public import proofs.«01_k».proof.Proof.Chain
public import proofs.«01_k».proof.Proof.Gen.KernelIdeal.Frame
public import Idealize.ShloMosaic.Lib.VecWindow
public import Idealize.ShloMosaic.Lib.Pipeline.Value
public import Idealize.ShloMosaic.Lib.Pointwise

@[expose] public section

set_option maxRecDepth 100000

noncomputable section

namespace Cert.KernelIdeal.Chain

open Idealize.ShloMosaic Idealize.ShloMosaic.TcCoe Idealize.ShloMosaic.Tactic Idealize.SL.Sem Cert.KernelIdeal.Gen

variable {F : FTy → Type} [FloatOps F]
variable (c : Dev nD) (i : grid0.Coords) (arg1 : Memref sig .tc .vmem S1x1x65536 .i32) (harg1 : arg1.IsWhole) (arg2 : Memref
  sig .tc .vmem S64x64 .f32) (harg2 : arg2.IsWhole) (arg3 : Memref sig .tc .vmem S64x128 .f32) (harg3 : arg3.IsWhole)
  (arg4 : Memref sig .tc .vmem S1x128 .f32) (harg4 : arg4.IsWhole) (arg5 : Memref sig .tc .vmem S128x64 .f32) (harg5 :
  arg5.IsWhole) (arg6 : Memref sig .tc .vmem S1x64 .f32) (harg6 : arg6.IsWhole) (arg7 : Memref sig .tc .vmem S1x64 .f32)
  (harg7 : arg7.IsWhole) (arg8 : Memref sig .tc .vmem S1x64 .f32) (harg8 : arg8.IsWhole) (arg9 : Memref sig .tc .vmem
  S64x64 .f32) (harg9 : arg9.IsWhole) (arg10 : Memref sig .tc .vmem S64x64 .f32) (harg10 : arg10.IsWhole) (arg11 :
  Memref sig .tc .vmem S64x64 .f32) (harg11 : arg11.IsWhole) (arg12 : Memref sig .tc .vmem S64x64 .f32) (harg12 :
  arg12.IsWhole) (arg13 : Memref sig .tc .vmem S1x64 .f32) (harg13 : arg13.IsWhole) (arg14 : Memref sig .tc .vmem S64x64
  .f32) (harg14 : arg14.IsWhole) (arg15 : Memref sig .tc .vmem S64x1 .f32) (harg15 : arg15.IsWhole) (arg16 : Memref sig
  .tc .vmem S64x256 .f32) (harg16 : arg16.IsWhole) (arg17 : Memref sig .tc .vmem S128x128 .bf16) (harg17 :
  arg17.IsWhole) (arg18 : Memref sig .tc .vmem S64x256 .f32) (harg18 : arg18.IsWhole)
variable (x0 : Vec F S1x1x65536 .i32) (x1 : Vec F S64x64 .f32) (x2 : Vec F S64x128 .f32) (x3 : Vec F S1x128 .f32) (x4 : Vec F
  S128x64 .f32) (x5 : Vec F S1x64 .f32) (x6 : Vec F S1x64 .f32) (x7 : Vec F S1x64 .f32) (x8 : Vec F S64x64 .f32) (x9 :
  Vec F S64x64 .f32) (x10 : Vec F S64x64 .f32) (x11 : Vec F S64x64 .f32) (x12 : Vec F S1x64 .f32) (x13 : Vec F S64x64
  .f32) (x14 : Vec F S64x1 .f32) (xo15 : Vec F S64x256 .f32) (xs0 : Vec F S128x128 .bf16) (xs1 : Vec F S64x256 .f32)

/-- The query the first point leaves. -/
theorem query_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14).2.2.1 =
      [⟨Rect.unit ![0, 0] S64x256.size inb_S64x256_S64x256_0_0, shapeCast S64x256 (queryAfter (k0_pay13 (F := F) i) (k0_pay14
      (F := F) (View.readAt (Elt F) arg1.view (Rect.unit ![0, 0, 0] S1x1x65536.size
      inb_S1x1x65536_S1x1x65536_0_0_0).toLoadRect (harg1.unread x0))) (arg17.view.readCov (Val := Elt F) [⟨Rect.unit ![0, 0]
      S128x128.size inb_S128x128_S128x128_0_0, (k0_pay7 (k0_pay5 (View.readAt (Elt F) arg2.view (Rect.unit ![0, 0]
      S64x64.size inb_S64x64_S64x64_0_0).toLoadRect (harg2.unread x1)) (View.readAt (Elt F) arg3.view (Rect.unit ![0, 0]
      S64x128.size inb_S64x128_S64x128_0_0).toLoadRect (harg3.unread x2)) (View.readAt (Elt F) arg4.view (Rect.unit ![0, 0]
      S1x128.size inb_S1x128_S1x128_0_0).toLoadRect (harg4.unread x3)) (View.readAt (Elt F) arg5.view (Rect.unit ![0, 0]
      S128x64.size inb_S128x64_S128x64_0_0).toLoadRect (harg5.unread x4)) (View.readAt (Elt F) arg6.view (Rect.unit ![0, 0]
      S1x64.size inb_S1x64_S1x64_0_0).toLoadRect (harg6.unread x5)) (View.readAt (Elt F) arg7.view (Rect.unit ![0, 0]
      S1x64.size inb_S1x64_S1x64_0_0).toLoadRect (harg7.unread x6))) (View.readAt (Elt F) arg8.view (Rect.unit ![0, 0]
      S1x64.size inb_S1x64_S1x64_0_0).toLoadRect (harg8.unread x7)) (View.readAt (Elt F) arg9.view (Rect.unit ![0, 0]
      S64x64.size inb_S64x64_S64x64_0_0).toLoadRect (harg9.unread x8)) (View.readAt (Elt F) arg10.view (Rect.unit ![0, 0]
      S64x64.size inb_S64x64_S64x64_0_0).toLoadRect (harg10.unread x9)) (View.readAt (Elt F) arg12.view (Rect.unit ![0, 0]
      S64x64.size inb_S64x64_S64x64_0_0).toLoadRect (harg12.unread x11)) (View.readAt (Elt F) arg14.view (Rect.unit ![0, 0]
      S64x64.size inb_S64x64_S64x64_0_0).toLoadRect (harg14.unread x13)))⟩] (Rect.unit ![0, 0] S128x128.size
      inb_S128x128_S128x128_0_0).toLoadRect) (arg18.view.readCov (Val := Elt F) [⟨Rect.unit ![0, 0] S64x256.size
      inb_S64x256_S64x256_0_0, (k0_pay11 (k0_pay9 (k0_pay5 (View.readAt (Elt F) arg2.view (Rect.unit ![0, 0] S64x64.size
      inb_S64x64_S64x64_0_0).toLoadRect (harg2.unread x1)) (View.readAt (Elt F) arg3.view (Rect.unit ![0, 0] S64x128.size
      inb_S64x128_S64x128_0_0).toLoadRect (harg3.unread x2)) (View.readAt (Elt F) arg4.view (Rect.unit ![0, 0] S1x128.size
      inb_S1x128_S1x128_0_0).toLoadRect (harg4.unread x3)) (View.readAt (Elt F) arg5.view (Rect.unit ![0, 0] S128x64.size
      inb_S128x64_S128x64_0_0).toLoadRect (harg5.unread x4)) (View.readAt (Elt F) arg6.view (Rect.unit ![0, 0] S1x64.size
      inb_S1x64_S1x64_0_0).toLoadRect (harg6.unread x5)) (View.readAt (Elt F) arg7.view (Rect.unit ![0, 0] S1x64.size
      inb_S1x64_S1x64_0_0).toLoadRect (harg7.unread x6))) (View.readAt (Elt F) arg8.view (Rect.unit ![0, 0] S1x64.size
      inb_S1x64_S1x64_0_0).toLoadRect (harg8.unread x7)) (View.readAt (Elt F) arg11.view (Rect.unit ![0, 0] S64x64.size
      inb_S64x64_S64x64_0_0).toLoadRect (harg11.unread x10))) (k0_pay10 (k0_pay5 (View.readAt (Elt F) arg2.view (Rect.unit
      ![0, 0] S64x64.size inb_S64x64_S64x64_0_0).toLoadRect (harg2.unread x1)) (View.readAt (Elt F) arg3.view (Rect.unit ![0,
      0] S64x128.size inb_S64x128_S64x128_0_0).toLoadRect (harg3.unread x2)) (View.readAt (Elt F) arg4.view (Rect.unit ![0,
      0] S1x128.size inb_S1x128_S1x128_0_0).toLoadRect (harg4.unread x3)) (View.readAt (Elt F) arg5.view (Rect.unit ![0, 0]
      S128x64.size inb_S128x64_S128x64_0_0).toLoadRect (harg5.unread x4)) (View.readAt (Elt F) arg6.view (Rect.unit ![0, 0]
      S1x64.size inb_S1x64_S1x64_0_0).toLoadRect (harg6.unread x5)) (View.readAt (Elt F) arg7.view (Rect.unit ![0, 0]
      S1x64.size inb_S1x64_S1x64_0_0).toLoadRect (harg7.unread x6))) (View.readAt (Elt F) arg8.view (Rect.unit ![0, 0]
      S1x64.size inb_S1x64_S1x64_0_0).toLoadRect (harg8.unread x7)) (View.readAt (Elt F) arg11.view (Rect.unit ![0, 0]
      S64x64.size inb_S64x64_S64x64_0_0).toLoadRect (harg11.unread x10))) (View.readAt (Elt F) arg1.view (Rect.unit (s :=
      S1x1x65536) ![0, 0, 65280] S1x1x256.size inb_S1x1x65536_S1x1x256_0_0_65280).toLoadRect (harg1.unread x0)))⟩] (Rect.unit
      ![0, 0] S64x256.size inb_S64x256_S64x256_0_0).toLoadRect) 256) shapeCasts_S64x256_S64x256⟩, ⟨Rect.unit ![0, 0]
      S64x256.size inb_S64x256_S64x256_0_0, (k0_pay11 (k0_pay9 (k0_pay5 (View.readAt (Elt F) arg2.view (Rect.unit ![0, 0]
      S64x64.size inb_S64x64_S64x64_0_0).toLoadRect (harg2.unread x1)) (View.readAt (Elt F) arg3.view (Rect.unit ![0, 0]
      S64x128.size inb_S64x128_S64x128_0_0).toLoadRect (harg3.unread x2)) (View.readAt (Elt F) arg4.view (Rect.unit ![0, 0]
      S1x128.size inb_S1x128_S1x128_0_0).toLoadRect (harg4.unread x3)) (View.readAt (Elt F) arg5.view (Rect.unit ![0, 0]
      S128x64.size inb_S128x64_S128x64_0_0).toLoadRect (harg5.unread x4)) (View.readAt (Elt F) arg6.view (Rect.unit ![0, 0]
      S1x64.size inb_S1x64_S1x64_0_0).toLoadRect (harg6.unread x5)) (View.readAt (Elt F) arg7.view (Rect.unit ![0, 0]
      S1x64.size inb_S1x64_S1x64_0_0).toLoadRect (harg7.unread x6))) (View.readAt (Elt F) arg8.view (Rect.unit ![0, 0]
      S1x64.size inb_S1x64_S1x64_0_0).toLoadRect (harg8.unread x7)) (View.readAt (Elt F) arg11.view (Rect.unit ![0, 0]
      S64x64.size inb_S64x64_S64x64_0_0).toLoadRect (harg11.unread x10))) (k0_pay10 (k0_pay5 (View.readAt (Elt F) arg2.view
      (Rect.unit ![0, 0] S64x64.size inb_S64x64_S64x64_0_0).toLoadRect (harg2.unread x1)) (View.readAt (Elt F) arg3.view
      (Rect.unit ![0, 0] S64x128.size inb_S64x128_S64x128_0_0).toLoadRect (harg3.unread x2)) (View.readAt (Elt F) arg4.view
      (Rect.unit ![0, 0] S1x128.size inb_S1x128_S1x128_0_0).toLoadRect (harg4.unread x3)) (View.readAt (Elt F) arg5.view
      (Rect.unit ![0, 0] S128x64.size inb_S128x64_S128x64_0_0).toLoadRect (harg5.unread x4)) (View.readAt (Elt F) arg6.view
      (Rect.unit ![0, 0] S1x64.size inb_S1x64_S1x64_0_0).toLoadRect (harg6.unread x5)) (View.readAt (Elt F) arg7.view
      (Rect.unit ![0, 0] S1x64.size inb_S1x64_S1x64_0_0).toLoadRect (harg7.unread x6))) (View.readAt (Elt F) arg8.view
      (Rect.unit ![0, 0] S1x64.size inb_S1x64_S1x64_0_0).toLoadRect (harg8.unread x7)) (View.readAt (Elt F) arg11.view
      (Rect.unit ![0, 0] S64x64.size inb_S64x64_S64x64_0_0).toLoadRect (harg11.unread x10))) (View.readAt (Elt F) arg1.view
      (Rect.unit (s := S1x1x65536) ![0, 0, 65280] S1x1x256.size inb_S1x1x65536_S1x1x256_0_0_65280).toLoadRect (harg1.unread
      x0)))⟩] := by
  sl_kernel_rfl

/-- The tables the first point leaves. -/
theorem table_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14).2.1 =
      [⟨Rect.unit ![0, 0] S128x128.size inb_S128x128_S128x128_0_0, (k0_pay7 (k0_pay5 (View.readAt (Elt F) arg2.view
      (Rect.unit ![0, 0] S64x64.size inb_S64x64_S64x64_0_0).toLoadRect (harg2.unread x1)) (View.readAt (Elt F) arg3.view
      (Rect.unit ![0, 0] S64x128.size inb_S64x128_S64x128_0_0).toLoadRect (harg3.unread x2)) (View.readAt (Elt F) arg4.view
      (Rect.unit ![0, 0] S1x128.size inb_S1x128_S1x128_0_0).toLoadRect (harg4.unread x3)) (View.readAt (Elt F) arg5.view
      (Rect.unit ![0, 0] S128x64.size inb_S128x64_S128x64_0_0).toLoadRect (harg5.unread x4)) (View.readAt (Elt F) arg6.view
      (Rect.unit ![0, 0] S1x64.size inb_S1x64_S1x64_0_0).toLoadRect (harg6.unread x5)) (View.readAt (Elt F) arg7.view
      (Rect.unit ![0, 0] S1x64.size inb_S1x64_S1x64_0_0).toLoadRect (harg7.unread x6))) (View.readAt (Elt F) arg8.view
      (Rect.unit ![0, 0] S1x64.size inb_S1x64_S1x64_0_0).toLoadRect (harg8.unread x7)) (View.readAt (Elt F) arg9.view
      (Rect.unit ![0, 0] S64x64.size inb_S64x64_S64x64_0_0).toLoadRect (harg9.unread x8)) (View.readAt (Elt F) arg10.view
      (Rect.unit ![0, 0] S64x64.size inb_S64x64_S64x64_0_0).toLoadRect (harg10.unread x9)) (View.readAt (Elt F) arg12.view
      (Rect.unit ![0, 0] S64x64.size inb_S64x64_S64x64_0_0).toLoadRect (harg12.unread x11)) (View.readAt (Elt F) arg14.view
      (Rect.unit ![0, 0] S64x64.size inb_S64x64_S64x64_0_0).toLoadRect (harg14.unread x13)))⟩] := by
  sl_kernel_rfl

/-- What the first point leaves in the output. -/
theorem out_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14).1 =
      [⟨Rect.unit ![0, 0] S64x256.size inb_S64x256_S64x256_0_0, addf (shapeCast S64x256 (arg16.view.readCov (Val := Elt F)
      [⟨Rect.unit ![0, 0] S64x256.size inb_S64x256_S64x256_0_0, k0_pay12 (F := F)⟩] (Rect.unit ![0, 0] S64x256.size
      inb_S64x256_S64x256_0_0).toLoadRect) shapeCasts_S64x256_S64x256) (outAfter (k0_pay13 (F := F) i) (k0_pay14 (F := F)
      (View.readAt (Elt F) arg1.view (Rect.unit ![0, 0, 0] S1x1x65536.size inb_S1x1x65536_S1x1x65536_0_0_0).toLoadRect
      (harg1.unread x0))) (arg17.view.readCov (Val := Elt F) [⟨Rect.unit ![0, 0] S128x128.size inb_S128x128_S128x128_0_0,
      (k0_pay7 (k0_pay5 (View.readAt (Elt F) arg2.view (Rect.unit ![0, 0] S64x64.size inb_S64x64_S64x64_0_0).toLoadRect
      (harg2.unread x1)) (View.readAt (Elt F) arg3.view (Rect.unit ![0, 0] S64x128.size inb_S64x128_S64x128_0_0).toLoadRect
      (harg3.unread x2)) (View.readAt (Elt F) arg4.view (Rect.unit ![0, 0] S1x128.size inb_S1x128_S1x128_0_0).toLoadRect
      (harg4.unread x3)) (View.readAt (Elt F) arg5.view (Rect.unit ![0, 0] S128x64.size inb_S128x64_S128x64_0_0).toLoadRect
      (harg5.unread x4)) (View.readAt (Elt F) arg6.view (Rect.unit ![0, 0] S1x64.size inb_S1x64_S1x64_0_0).toLoadRect
      (harg6.unread x5)) (View.readAt (Elt F) arg7.view (Rect.unit ![0, 0] S1x64.size inb_S1x64_S1x64_0_0).toLoadRect
      (harg7.unread x6))) (View.readAt (Elt F) arg8.view (Rect.unit ![0, 0] S1x64.size inb_S1x64_S1x64_0_0).toLoadRect
      (harg8.unread x7)) (View.readAt (Elt F) arg9.view (Rect.unit ![0, 0] S64x64.size inb_S64x64_S64x64_0_0).toLoadRect
      (harg9.unread x8)) (View.readAt (Elt F) arg10.view (Rect.unit ![0, 0] S64x64.size inb_S64x64_S64x64_0_0).toLoadRect
      (harg10.unread x9)) (View.readAt (Elt F) arg12.view (Rect.unit ![0, 0] S64x64.size inb_S64x64_S64x64_0_0).toLoadRect
      (harg12.unread x11)) (View.readAt (Elt F) arg14.view (Rect.unit ![0, 0] S64x64.size inb_S64x64_S64x64_0_0).toLoadRect
      (harg14.unread x13)))⟩] (Rect.unit ![0, 0] S128x128.size inb_S128x128_S128x128_0_0).toLoadRect) (arg18.view.readCov
      (Val := Elt F) [⟨Rect.unit ![0, 0] S64x256.size inb_S64x256_S64x256_0_0, (k0_pay11 (k0_pay9 (k0_pay5 (View.readAt (Elt
      F) arg2.view (Rect.unit ![0, 0] S64x64.size inb_S64x64_S64x64_0_0).toLoadRect (harg2.unread x1)) (View.readAt (Elt F)
      arg3.view (Rect.unit ![0, 0] S64x128.size inb_S64x128_S64x128_0_0).toLoadRect (harg3.unread x2)) (View.readAt (Elt F)
      arg4.view (Rect.unit ![0, 0] S1x128.size inb_S1x128_S1x128_0_0).toLoadRect (harg4.unread x3)) (View.readAt (Elt F)
      arg5.view (Rect.unit ![0, 0] S128x64.size inb_S128x64_S128x64_0_0).toLoadRect (harg5.unread x4)) (View.readAt (Elt F)
      arg6.view (Rect.unit ![0, 0] S1x64.size inb_S1x64_S1x64_0_0).toLoadRect (harg6.unread x5)) (View.readAt (Elt F)
      arg7.view (Rect.unit ![0, 0] S1x64.size inb_S1x64_S1x64_0_0).toLoadRect (harg7.unread x6))) (View.readAt (Elt F)
      arg8.view (Rect.unit ![0, 0] S1x64.size inb_S1x64_S1x64_0_0).toLoadRect (harg8.unread x7)) (View.readAt (Elt F)
      arg11.view (Rect.unit ![0, 0] S64x64.size inb_S64x64_S64x64_0_0).toLoadRect (harg11.unread x10))) (k0_pay10 (k0_pay5
      (View.readAt (Elt F) arg2.view (Rect.unit ![0, 0] S64x64.size inb_S64x64_S64x64_0_0).toLoadRect (harg2.unread x1))
      (View.readAt (Elt F) arg3.view (Rect.unit ![0, 0] S64x128.size inb_S64x128_S64x128_0_0).toLoadRect (harg3.unread x2))
      (View.readAt (Elt F) arg4.view (Rect.unit ![0, 0] S1x128.size inb_S1x128_S1x128_0_0).toLoadRect (harg4.unread x3))
      (View.readAt (Elt F) arg5.view (Rect.unit ![0, 0] S128x64.size inb_S128x64_S128x64_0_0).toLoadRect (harg5.unread x4))
      (View.readAt (Elt F) arg6.view (Rect.unit ![0, 0] S1x64.size inb_S1x64_S1x64_0_0).toLoadRect (harg6.unread x5))
      (View.readAt (Elt F) arg7.view (Rect.unit ![0, 0] S1x64.size inb_S1x64_S1x64_0_0).toLoadRect (harg7.unread x6)))
      (View.readAt (Elt F) arg8.view (Rect.unit ![0, 0] S1x64.size inb_S1x64_S1x64_0_0).toLoadRect (harg8.unread x7))
      (View.readAt (Elt F) arg11.view (Rect.unit ![0, 0] S64x64.size inb_S64x64_S64x64_0_0).toLoadRect (harg11.unread x10)))
      (View.readAt (Elt F) arg1.view (Rect.unit (s := S1x1x65536) ![0, 0, 65280] S1x1x256.size
      inb_S1x1x65536_S1x1x256_0_0_65280).toLoadRect (harg1.unread x0)))⟩] (Rect.unit ![0, 0] S64x256.size
      inb_S64x256_S64x256_0_0).toLoadRect) 256)⟩, ⟨Rect.unit ![0, 0] S64x256.size inb_S64x256_S64x256_0_0, k0_pay12 (F :=
      F)⟩] := by
  sl_kernel_rfl

/-- The query a middle point leaves. -/
theorem query_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 xo15 xs0 xs1).2.2.1 =
      [⟨Rect.unit ![0, 0] S64x256.size inb_S64x256_S64x256_0_0, shapeCast S64x256 (queryAfter (k0_pay13 (F := F) i) (k0_pay14
      (F := F) (View.readAt (Elt F) arg1.view (Rect.unit ![0, 0, 0] S1x1x65536.size
      inb_S1x1x65536_S1x1x65536_0_0_0).toLoadRect (harg1.unread x0))) (View.readAt (Elt F) arg17.view (Rect.unit ![0, 0]
      S128x128.size inb_S128x128_S128x128_0_0).toLoadRect (harg17.unread xs0)) (View.readAt (Elt F) arg18.view (Rect.unit
      ![0, 0] S64x256.size inb_S64x256_S64x256_0_0).toLoadRect (harg18.unread xs1)) 256) shapeCasts_S64x256_S64x256⟩] := by
  sl_kernel_rfl

/-- What a middle point leaves in the output. -/
theorem out_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 xo15 xs0 xs1).1 =
      [⟨Rect.unit ![0, 0] S64x256.size inb_S64x256_S64x256_0_0, addf (shapeCast S64x256 (View.readAt (Elt F) arg16.view
      (Rect.unit ![0, 0] S64x256.size inb_S64x256_S64x256_0_0).toLoadRect (harg16.unread xo15)) shapeCasts_S64x256_S64x256)
      (outAfter (k0_pay13 (F := F) i) (k0_pay14 (F := F) (View.readAt (Elt F) arg1.view (Rect.unit ![0, 0, 0] S1x1x65536.size
      inb_S1x1x65536_S1x1x65536_0_0_0).toLoadRect (harg1.unread x0))) (View.readAt (Elt F) arg17.view (Rect.unit ![0, 0]
      S128x128.size inb_S128x128_S128x128_0_0).toLoadRect (harg17.unread xs0)) (View.readAt (Elt F) arg18.view (Rect.unit
      ![0, 0] S64x256.size inb_S64x256_S64x256_0_0).toLoadRect (harg18.unread xs1)) 256)⟩] := by
  sl_kernel_rfl

/-- The query the last point leaves. -/
theorem query_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 xo15 xs0 xs1).2.2.1 =
      [⟨Rect.unit ![0, 0] S64x256.size inb_S64x256_S64x256_0_0, shapeCast S64x256 (queryAfter (k0_pay13 (F := F) i) (k0_pay14
      (F := F) (View.readAt (Elt F) arg1.view (Rect.unit ![0, 0, 0] S1x1x65536.size
      inb_S1x1x65536_S1x1x65536_0_0_0).toLoadRect (harg1.unread x0))) (View.readAt (Elt F) arg17.view (Rect.unit ![0, 0]
      S128x128.size inb_S128x128_S128x128_0_0).toLoadRect (harg17.unread xs0)) (View.readAt (Elt F) arg18.view (Rect.unit
      ![0, 0] S64x256.size inb_S64x256_S64x256_0_0).toLoadRect (harg18.unread xs1)) 256) shapeCasts_S64x256_S64x256⟩] := by
  sl_kernel_rfl

/-- What the last point leaves in the output. -/
theorem out_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 xo15 xs0 xs1).1 =
      [⟨Rect.unit ![0, 0] S64x256.size inb_S64x256_S64x256_0_0, k0_pay4 (View.readAt (Elt F) arg14.view (Rect.unit ![0, 0]
      S64x64.size inb_S64x64_S64x64_0_0).toLoadRect (harg14.unread x13)) (View.readAt (Elt F) arg13.view (Rect.unit ![0, 0]
      S1x64.size inb_S1x64_S1x64_0_0).toLoadRect (harg13.unread x12)) (View.readAt (Elt F) arg15.view (Rect.unit ![0, 0]
      S64x1.size inb_S64x1_S64x1_0_0).toLoadRect (harg15.unread x14)) (arg16.view.readCov (Val := Elt F) [⟨Rect.unit ![0, 0]
      S64x256.size inb_S64x256_S64x256_0_0, addf (shapeCast S64x256 (View.readAt (Elt F) arg16.view (Rect.unit ![0, 0]
      S64x256.size inb_S64x256_S64x256_0_0).toLoadRect (harg16.unread xo15)) shapeCasts_S64x256_S64x256) (outAfter (k0_pay13
      (F := F) i) (k0_pay14 (F := F) (View.readAt (Elt F) arg1.view (Rect.unit ![0, 0, 0] S1x1x65536.size
      inb_S1x1x65536_S1x1x65536_0_0_0).toLoadRect (harg1.unread x0))) (View.readAt (Elt F) arg17.view (Rect.unit ![0, 0]
      S128x128.size inb_S128x128_S128x128_0_0).toLoadRect (harg17.unread xs0)) (View.readAt (Elt F) arg18.view (Rect.unit
      ![0, 0] S64x256.size inb_S64x256_S64x256_0_0).toLoadRect (harg18.unread xs1)) 256)⟩] (Rect.unit ![0, 0] S64x256.size
      inb_S64x256_S64x256_0_0).toLoadRect)⟩, ⟨Rect.unit ![0, 0] S64x256.size inb_S64x256_S64x256_0_0, addf (shapeCast S64x256
      (View.readAt (Elt F) arg16.view (Rect.unit ![0, 0] S64x256.size inb_S64x256_S64x256_0_0).toLoadRect (harg16.unread
      xo15)) shapeCasts_S64x256_S64x256) (outAfter (k0_pay13 (F := F) i) (k0_pay14 (F := F) (View.readAt (Elt F) arg1.view
      (Rect.unit ![0, 0, 0] S1x1x65536.size inb_S1x1x65536_S1x1x65536_0_0_0).toLoadRect (harg1.unread x0))) (View.readAt (Elt
      F) arg17.view (Rect.unit ![0, 0] S128x128.size inb_S128x128_S128x128_0_0).toLoadRect (harg17.unread xs0)) (View.readAt
      (Elt F) arg18.view (Rect.unit ![0, 0] S64x256.size inb_S64x256_S64x256_0_0).toLoadRect (harg18.unread xs1)) 256)⟩] := by
  sl_kernel_rfl

/-- The last time step's tokens: the block's last 256 columns. -/
def lastTokens (x0 : Vec F S1x1x65536 .i32) : Vec F S1x1x256 .i32 := fun y =>
  x0 ((Rect.unit (s := S1x1x65536) ![0, 0, 65280] S1x1x256.size inb_S1x1x65536_S1x1x256_0_0_65280).toLoadRect.idx y)

theorem cast_same (x : FVec F S64x256 .f32) : shapeCast S64x256 x shapeCasts_S64x256_S64x256 = x := shapeCast_id x _

theorem readAt_whole {s : Shape} {e : EltTy} {sp : Space} (a : Memref sig .tc sp s e) (h : a.IsWhole) (x : Vec F s e)
    {off : Fin s.rank → ℕ} (inb : ∀ a, off a + s.size a ≤ s.size a) :
    View.readAt (Elt F) a.view (Rect.unit off s.size inb).toLoadRect (h.unread x) = x := by
  rw [View.readAt_full, Memref.IsWhole.read_unread]

theorem readAt_lastTokens :
    View.readAt (Elt F) arg1.view (Rect.unit (s := S1x1x65536) ![0, 0, 65280] S1x1x256.size inb_S1x1x65536_S1x1x256_0_0_65280).toLoadRect
      (harg1.unread x0) = lastTokens x0 :=
  funext fun _ => congrFun (harg1.read_unread x0) _

/-- The hidden rows of the token table, before the shift `ln_b`. -/
abbrev hiddenOf (x1 : Vec F S64x64 .f32) (x2 : Vec F S64x128 .f32) (x3 : Vec F S1x128 .f32) (x4 : Vec F S128x64 .f32) (x5 x6 : Vec F S1x64 .f32) :
    FVec F S64x64 .f32 := k0_pay5 x1 x2 x3 x4 x5 x6

/-- The key and value tables. -/
abbrev tablesOf (h : FVec F S64x64 .f32) (x7 : Vec F S1x64 .f32) (x8 x9 x11 x13 : Vec F S64x64 .f32) : FVec F S128x128 .bf16 :=
  k0_pay7 h x7 x8 x9 x11 x13

/-- The query the steps start from. -/
abbrev queryOf (h : FVec F S64x64 .f32) (x7 : Vec F S1x64 .f32) (x10 : Vec F S64x64 .f32) (x0 : Vec F S1x1x65536 .i32) : FVec F S64x256 .f32 :=
  k0_pay11 (k0_pay9 h x7 x10) (k0_pay10 h x7 x10) (lastTokens x0)

/-- The query after the first point. -/
theorem query_A_value (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 =
      queryAfter (k0_pay13 (F := F) i) (k0_pay14 (F := F) x0) (tablesOf (hiddenOf x1 x2 x3 x4 x5 x6) x7 x8 x9 x11 x13)
      (queryOf (hiddenOf x1 x2 x3 x4 x5 x6) x7 x10 x0) 256 := by
  unfold sout0_A_1
  rw [query_A]
  repeat rw [readAt_whole]
  repeat rw [View.readCov_full]
  rw [View.read_writes_full]
  (try rw [readAt_lastTokens])
  repeat rw [cast_same]

/-- The tables after the first point. -/
theorem table_A_value (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 =
      tablesOf (hiddenOf x1 x2 x3 x4 x5 x6) x7 x8 x9 x11 x13 := by
  unfold sout0_A_0
  rw [table_A]
  repeat rw [readAt_whole]
  repeat rw [View.readCov_full]
  rw [View.read_writes_full]
  (try rw [readAt_lastTokens])
  repeat rw [cast_same]

/-- The output after the first point. -/
theorem out_A_value (hc0 : cond0_0 i) (hc1 : ¬cond0_1 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 =
      addf (k0_pay12 (F := F)) (outAfter (k0_pay13 (F := F) i) (k0_pay14 (F := F) x0) (tablesOf (hiddenOf x1 x2 x3 x4 x5 x6)
      x7 x8 x9 x11 x13) (queryOf (hiddenOf x1 x2 x3 x4 x5 x6) x7 x10 x0) 256) := by
  unfold out0_A_15
  rw [out_A]
  repeat rw [readAt_whole]
  repeat rw [View.readCov_full]
  rw [View.read_writes_full]
  (try rw [readAt_lastTokens])
  repeat rw [cast_same]

/-- The query after a later point. -/
theorem query_B_value (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 xo15 xs0 xs1 =
      queryAfter (k0_pay13 (F := F) i) (k0_pay14 (F := F) x0) xs0 xs1 256 := by
  unfold sout0_B_1
  rw [query_B]
  repeat rw [readAt_whole]
  repeat rw [View.readCov_full]
  rw [View.read_writes_full]
  (try rw [readAt_lastTokens])
  repeat rw [cast_same]

/-- The output after a later point. -/
theorem out_B_value (hc0 : ¬cond0_0 i) (hc1 : ¬cond0_1 i) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 xo15 xs0 xs1 =
      addf xo15 (outAfter (k0_pay13 (F := F) i) (k0_pay14 (F := F) x0) xs0 xs1 256) := by
  unfold out0_B_15
  rw [out_B]
  repeat rw [readAt_whole]
  repeat rw [View.readCov_full]
  rw [View.read_writes_full]
  (try rw [readAt_lastTokens])
  repeat rw [cast_same]

/-- The query after a later point. -/
theorem query_C_value (hc0 : ¬cond0_0 i) (hc1 : cond0_1 i) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 xo15 xs0 xs1 =
      queryAfter (k0_pay13 (F := F) i) (k0_pay14 (F := F) x0) xs0 xs1 256 := by
  unfold sout0_C_1
  rw [query_C]
  repeat rw [readAt_whole]
  repeat rw [View.readCov_full]
  rw [View.read_writes_full]
  (try rw [readAt_lastTokens])
  repeat rw [cast_same]

/-- The output after a later point. -/
theorem out_C_value (hc0 : ¬cond0_0 i) (hc1 : cond0_1 i) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      hc0 hc1 x0 x1 x2 x3 x4 x5 x6 x7 x8 x9 x10 x11 x12 x13 x14 xo15 xs0 xs1 =
      k0_pay4 x13 x12 x14 (addf xo15 (outAfter (k0_pay13 (F := F) i) (k0_pay14 (F := F) x0) xs0 xs1 256)) := by
  unfold out0_C_15
  rw [out_C]
  repeat rw [readAt_whole]
  repeat rw [View.readCov_full]
  rw [View.read_writes_full]
  (try rw [readAt_lastTokens])
  repeat rw [cast_same]

end Cert.KernelIdeal.Chain

end
-- ==== Proof.Tables.lean ====
/- What the first grid point prepares and the last one adds, element by element in exact arithmetic. -/
module

public import proofs.«01_k».proof.Proof.Steps
public import proofs.«01_k».proof.Proof.Pieces

@[expose] public section

set_option maxRecDepth 16384

noncomputable section

namespace Cert.KernelIdeal.Chain

open Idealize.ShloMosaic Idealize.SL.Sem Cert.KernelIdeal.Gen Cert.Spec

variable (x1 : Vec Ideal S64x64 .f32) (x2 : Vec Ideal S64x128 .f32) (x3 : Vec Ideal S1x128 .f32) (x4 : Vec Ideal S128x64 .f32)
  (x5 x6 x7 : Vec Ideal S1x64 .f32) (x8 x9 x10 x11 : Vec Ideal S64x64 .f32) (x12 : Vec Ideal S1x64 .f32) (x13 : Vec Ideal S64x64 .f32)
  (x14 : Vec Ideal S64x1 .f32)

/-- The kernel's weights, as the blocks hold them. -/
def weights : Weights where
  embed i j := x1 (ix2 i j)
  w1 i j := x2 (ix2 i j)
  b1 j := x3 (ix2 0 j)
  w2 i j := x4 (ix2 i j)
  b2 j := x5 (ix2 0 j)
  g j := x6 (ix2 0 j)
  lb j := x7 (ix2 0 j)
  wk i j := x8 (ix2 i j)
  wv i j := x9 (ix2 i j)
  wq i j := x10 (ix2 i j)
  wrp i j := x11 (ix2 i j)
  brp j := x12 (ix2 0 j)
  wout i j := x13 (ix2 i j)
  bout j := x14 (ix2 j 0)

theorem hidden_apply (v k : Fin 64) : k0_pay6 (hiddenOf x1 x2 x3 x4 x5 x6) x7 (ix2 v k) = (weights x1 x2 x3 x4 x5 x6 x7 x8 x9 x10 x11 x12 x13 x14).row v k := by
  pointwise [hiddenOf, k0_pay6, k0_pay5]
  rfl

theorem tables (hw : (weights x1 x2 x3 x4 x5 x6 x7 x8 x9 x10 x11 x12 x13 x14).AreNums) :
    IsTables (tablesOf (hiddenOf x1 x2 x3 x4 x5 x6) x7 x8 x9 x11 x13) (weights x1 x2 x3 x4 x5 x6 x7 x8 x9 x10 x11 x12 x13 x14).keyR (weights x1 x2 x3 x4 x5 x6 x7 x8 x9 x10 x11 x12 x13 x14).seenR := by
  have hH := hidden_apply x1 x2 x3 x4 x5 x6 x7 x8 x9 x10 x11 x12 x13 x14
  unfold tablesOf
  generalize hiddenOf x1 x2 x3 x4 x5 x6 = h at hH ⊢
  constructor
  · intro i v
    rw [Weights.keyR_coe hw]
    pointwise [k0_pay7]
    simp only [hH]
    rfl
  · intro i v
    have hn := Weights.key_isNum hw v i
    pointwise [k0_pay7]
    simp only [hH]
    show (weights x1 x2 x3 x4 x5 x6 x7 x8 x9 x10 x11 x12 x13 x14).key v i - (weights x1 x2 x3 x4 x5 x6 x7 x8 x9 x10 x11 x12 x13 x14).key v i = 0
    obtain ⟨r, hr⟩ := hn
    rw [hr, ← EReal.coe_sub, sub_self]; rfl
  · intro i v
    rw [Weights.seenR_coe hw]
    pointwise [k0_pay7]
    simp only [hH]
    rfl
  · intro i v
    pointwise [k0_pay7]

theorem queries (hw : (weights x1 x2 x3 x4 x5 x6 x7 x8 x9 x10 x11 x12 x13 x14).AreNums) (x0 : Vec Ideal S1x1x65536 .i32) (i : Fin 64) (b : Fin 256) (t : Fin 64)
    (ht : x0 (ix3 0 0 ⟨65280 + b.val, by omega⟩) = BitVec.ofNat 32 t.val) :
    queryOf (F := Ideal) (hiddenOf x1 x2 x3 x4 x5 x6) x7 x10 x0 (ix2 i b) = (((weights x1 x2 x3 x4 x5 x6 x7 x8 x9 x10 x11 x12 x13 x14).queryR t i : ℝ) : EReal) := by
  have hH := hidden_apply x1 x2 x3 x4 x5 x6 x7 x8 x9 x10 x11 x12 x13 x14
  have hn := Weights.query_isNum hw t i
  rw [Weights.queryR_coe hw]
  have hl : lastTokens (F := Ideal) x0 (ix3 0 0 b) = BitVec.ofNat 32 t.val := by
    rw [← ht]
    pointwise [lastTokens]
  unfold queryOf
  generalize hiddenOf x1 x2 x3 x4 x5 x6 = h at hH ⊢
  pointwise [k0_pay11, k0_pay9, k0_pay10, k0_pay8]
  simp only [hH]
  refine (congrArg₂ (· + ·) (oneHot_sum _ t hl (fun v => (weights x1 x2 x3 x4 x5 x6 x7 x8 x9 x10 x11 x12 x13 x14).query v i)) (oneHot_sum _ t hl (fun v => (weights x1 x2 x3 x4 x5 x6 x7 x8 x9 x10 x11 x12 x13 x14).query v i - (weights x1 x2 x3 x4 x5 x6 x7 x8 x9 x10 x11 x12 x13 x14).query v i))).trans ?_
  obtain ⟨r, hr⟩ := hn
  rw [hr, ← EReal.coe_sub, sub_self]
  exact add_zero _

theorem last_apply (x : FVec Ideal S64x256 .f32) (o : Fin 64) (b : Fin 256) :
    k0_pay4 (F := Ideal) x13 x12 x14 x (ix2 o b) = x (ix2 o b) + (∑ y, (weights x1 x2 x3 x4 x5 x6 x7 x8 x9 x10 x11 x12 x13 x14).wout y o * (weights x1 x2 x3 x4 x5 x6 x7 x8 x9 x10 x11 x12 x13 x14).brp y + (weights x1 x2 x3 x4 x5 x6 x7 x8 x9 x10 x11 x12 x13 x14).bout o) := by
  pointwise [k0_pay4]
  rfl

end Cert.KernelIdeal.Chain

end
-- ==== Proof.Run.lean ====
/- The kernel's run in exact arithmetic: what the eight grid points leave, and the result array. -/
module

public import proofs.«01_k».proof.Proof.Tables
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Value

open Cert.KernelIdeal Cert.KernelIdeal.Gen Cert.KernelIdeal.Chain Cert.Spec
open Idealize.ShloMosaic Idealize.ShloMosaic.TcCoe Idealize.SL.Sem
open Idealize.ShloMosaic.Pipeline (Dat)

variable (m : (ℓ : Loc nD τ sig) → Buf (Elt Ideal) ℓ)

/-- The weights as the arguments hold them. -/
def weightsOf (c : Dev nD) : Weights where
  embed i j := (m ((c : Thread nD τ).loc main_arg1) : FVec Ideal S64x64 .f32) (ix2 i j)
  w1 i j := (m ((c : Thread nD τ).loc main_arg2) : FVec Ideal S64x128 .f32) (ix2 i j)
  b1 j := (m ((c : Thread nD τ).loc main_arg3) : FVec Ideal S128 .f32) (ix1 j)
  w2 i j := (m ((c : Thread nD τ).loc main_arg4) : FVec Ideal S128x64 .f32) (ix2 i j)
  b2 j := (m ((c : Thread nD τ).loc main_arg5) : FVec Ideal S64 .f32) (ix1 j)
  g j := (m ((c : Thread nD τ).loc main_arg6) : FVec Ideal S64 .f32) (ix1 j)
  lb j := (m ((c : Thread nD τ).loc main_arg7) : FVec Ideal S64 .f32) (ix1 j)
  wk i j := (m ((c : Thread nD τ).loc main_arg8) : FVec Ideal S64x64 .f32) (ix2 i j)
  wv i j := (m ((c : Thread nD τ).loc main_arg9) : FVec Ideal S64x64 .f32) (ix2 i j)
  wq i j := (m ((c : Thread nD τ).loc main_arg10) : FVec Ideal S64x64 .f32) (ix2 i j)
  wrp i j := (m ((c : Thread nD τ).loc main_arg11) : FVec Ideal S64x64 .f32) (ix2 i j)
  brp j := (m ((c : Thread nD τ).loc main_arg12) : FVec Ideal S64 .f32) (ix1 j)
  wout i j := (m ((c : Thread nD τ).loc main_arg13) : FVec Ideal S64x64 .f32) (ix2 i j)
  bout j := (m ((c : Thread nD τ).loc main_arg14) : FVec Ideal S64 .f32) (ix1 j)

theorem idx : ∀ t : Fin cfg0.N, (grid0.coords t 0).val = t.val ∧ t.val < 8 ∧ win0_0.index t = ![0, 0, 7 - t.val] ∧ win0_1.index t = ![0, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] :=
  (by decide +kernel : ∀ t : Fin grid0.N, _)

/-! The weights' blocks are their arrays. -/

theorem block1 (c : Dev nD) (t : Fin cfg0.N) : iblk m c 1 t = V m c main_arg1 := by blk_ext! [iblk, idx t]
theorem block2 (c : Dev nD) (t : Fin cfg0.N) : iblk m c 2 t = V m c main_arg2 := by blk_ext! [iblk, idx t]
theorem block3 (c : Dev nD) (t : Fin cfg0.N) : iblk m c 3 t = V m c main_v2 := by blk_ext! [iblk, idx t]
theorem block4 (c : Dev nD) (t : Fin cfg0.N) : iblk m c 4 t = V m c main_arg4 := by blk_ext! [iblk, idx t]
theorem block5 (c : Dev nD) (t : Fin cfg0.N) : iblk m c 5 t = V m c main_v3 := by blk_ext! [iblk, idx t]
theorem block6 (c : Dev nD) (t : Fin cfg0.N) : iblk m c 6 t = V m c main_v4 := by blk_ext! [iblk, idx t]
theorem block7 (c : Dev nD) (t : Fin cfg0.N) : iblk m c 7 t = V m c main_v5 := by blk_ext! [iblk, idx t]
theorem block8 (c : Dev nD) (t : Fin cfg0.N) : iblk m c 8 t = V m c main_arg8 := by blk_ext! [iblk, idx t]
theorem block9 (c : Dev nD) (t : Fin cfg0.N) : iblk m c 9 t = V m c main_arg9 := by blk_ext! [iblk, idx t]
theorem block10 (c : Dev nD) (t : Fin cfg0.N) : iblk m c 10 t = V m c main_arg10 := by blk_ext! [iblk, idx t]
theorem block11 (c : Dev nD) (t : Fin cfg0.N) : iblk m c 11 t = V m c main_arg11 := by blk_ext! [iblk, idx t]
theorem block12 (c : Dev nD) (t : Fin cfg0.N) : iblk m c 12 t = V m c main_v6 := by blk_ext! [iblk, idx t]
theorem block13 (c : Dev nD) (t : Fin cfg0.N) : iblk m c 13 t = V m c main_arg13 := by blk_ext! [iblk, idx t]
theorem block14 (c : Dev nD) (t : Fin cfg0.N) : iblk m c 14 t = V m c main_v7 := by blk_ext! [iblk, idx t]

theorem row128 (x : FVec Ideal S128 .f32) (j : Fin 128) : shapeCast S1x128 x shapeCasts_S128_S1x128 (ix2 0 j) = x (ix1 j) := by pointwise
theorem row64 (x : FVec Ideal S64 .f32) (j : Fin 64) : shapeCast S1x64 x shapeCasts_S64_S1x64 (ix2 0 j) = x (ix1 j) := by pointwise
theorem column64 (x : FVec Ideal S64 .f32) (j : Fin 64) : shapeCast S64x1 x shapeCasts_S64_S64x1 (ix2 j 0) = x (ix1 j) := by pointwise

/-- The weights as the blocks hold them are the weights as the arguments hold them. -/
theorem weights_eq (c : Dev nD) (t : Fin cfg0.N) :
    weights (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) = weightsOf m c := by
  rw [block1, block2, block3, block4, block5, block6, block7, block8, block9, block10, block11, block12, block13, block14]
  unfold weights weightsOf
  congr 1
  · exact funext fun j => row128 _ j
  · exact funext fun j => row64 _ j
  · exact funext fun j => row64 _ j
  · exact funext fun j => row64 _ j
  · exact funext fun j => row64 _ j
  · exact funext fun j => column64 _ j

theorem entry1 (c : Dev nD) : V m c main_v1 = shapeCast S1x1x524288 (transpose S2048x256 [1, 0] (m ((c : Thread nD τ).loc main_arg0) : IVec S256x2048 32)
    transposes_S256x2048_S2048x256_1_0) shapeCasts_S2048x256_S1x1x524288 := rfl

theorem block0 (c : Dev nD) (t : Fin cfg0.N) (k : Fin 65536) :
    iblk m c 0 t (ix3 0 0 k) = V m c main_v1 (ix3 0 0 ⟨(7 - t.val) * 65536 + k.val, by omega⟩) := by blk_ext! [iblk, idx t]

theorem word (c : Dev nD) (t : Fin cfg0.N) (n : ℕ) (hn : n < 256) (b : Fin 256) :
    wordAt (k0_pay14 (F := Ideal) (iblk m c 0 t)) n hn b
      = (m ((c : Thread nD τ).loc main_arg0) : IVec S256x2048 32) (ix2 b ⟨2047 - (256 * t.val + n), by omega⟩) := by
  unfold wordAt
  have ht := (idx t).2.1
  pointwise [k0_pay14]
  rw [block0, entry1]
  pointwise
  congr 2
  all_goals apply Fin.ext
  all_goals dsimp only
  all_goals omega

/-- The first step of a block counts unless it is the run's first. -/
theorem firstCounts (t : Fin cfg0.N) : k0_pay13 (F := Ideal) (grid0.coords t) = ((Delta.counts (256 * t.val) : ℝ) : EReal) := by
  unfold k0_pay13
  rw [(idx t).1]
  have ht := (idx t).2.1
  unfold Delta.counts
  by_cases h : t.val = 0
  · rw [if_pos (by omega), h]
    exact Ideal.ofBits_zero_f32
  · rw [if_neg (by omega)]
    have hne : BitVec.ofNat 32 t.val ≠ 0#32 := by
      intro he
      have := congrArg BitVec.toNat he
      simp only [BitVec.toNat_ofNat] at this
      omega
    have hs : Scalar.select (Scalar.cmpi .eq (BitVec.ofNat 32 t.val) 0#32) (Scalar.ofBits .f32 0x00000000#32 : Ideal .f32)
        (Scalar.ofBits .f32 0x3F800000#32) = (Scalar.ofBits .f32 0x3F800000#32 : Ideal .f32) := by
      simp [Scalar.cmpi, Scalar.select, IntOp.cmpi, beq_eq_false_iff_ne.2 hne]
    exact hs.trans Ideal.ofBits_one_f32

/-! What the points leave. -/

section Points

theorem back_lt (n : ℕ) : 2047 - n < 2048 := by omega

variable {m} {c : Dev nD} (hw : (weightsOf m c).AreNums) {tok : ℕ → Fin 256 → Fin 64}
  (htok : ∀ n (hn : n < 2048) (b : Fin 256),
    (m ((c : Thread nD τ).loc main_arg0) : IVec S256x2048 32) (ix2 b ⟨2047 - n, back_lt n⟩) = BitVec.ofNat 32 (tok n b).val)

/-- The query of entry `b` at its last token. -/
abbrev lastQuery (w : Weights) (tok : ℕ → Fin 256 → Fin 64) (b : Fin 256) : Fin 64 → ℝ := w.queryR (tok 0 b)

include htok in
theorem words (t : Fin cfg0.N) (n : ℕ) (hn : n < 256) (b : Fin 256) :
    wordAt (k0_pay14 (F := Ideal) (iblk m c 0 t)) n hn b = BitVec.ofNat 32 (tok (256 * t.val + n) b).val := by
  have ht := (idx t).2.1
  rw [word]; exact htok _ (by omega) b

/-- What the run has left after point `n`, but for the last point's output. -/
structure Left (w : Weights) (tok : ℕ → Fin 256 → Fin 64) (n : ℕ) (s : Vec Ideal S64x256 .f32 × Vec Ideal S128x128 .bf16 × Vec Ideal S64x256 .f32) : Prop where
  tab : IsTables s.2.1 w.keyR w.seenR
  query : ∀ i b, s.2.2 (ix2 i b) = ((walkQuery w.keyR tok (lastQuery w tok) b (256 * (n + 1)) i : ℝ) : EReal)
  out : n < 7 → ∀ i b, s.1 (ix2 i b) = ((walkSum w.keyR w.seenR tok (lastQuery w tok) b (256 * (n + 1)) i : ℝ) : EReal)
  last : n = 7 → ∀ o b, s.1 (ix2 o b) = ((walkSum w.keyR w.seenR tok (lastQuery w tok) b 2048 o : ℝ) : EReal)
    + (∑ y, w.wout y o * w.brp y + w.bout o)

include hw htok in
theorem left_first (t : Fin cfg0.N) (h0 : t.val % 8 = 0) (h1 : ¬t.val % 8 = 7) : Left (weightsOf m c) tok t.val (outsAt0 m c t.val t.isLt) := by
  have ht := (idx t).2.1
  have htv : t.val = 0 := by omega
  have hT := tables (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t)
  have hQ := queries (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t)
  rw [weights_eq] at hT hQ
  have hseq := words htok t
  have hz : ∀ i b, queryOf (F := Ideal) (hiddenOf (iblk m c 1 t) (iblk m c 2 t) (iblk m c 3 t) (iblk m c 4 t) (iblk m c 5 t) (iblk m c 6 t)) (iblk m c 7 t)
      (iblk m c 10 t) (iblk m c 0 t) (ix2 i b)
      = ((walkQuery (weightsOf m c).keyR tok (lastQuery (weightsOf m c) tok) b (256 * t.val) i : ℝ) : EReal) := by
    intro i b
    have hk : (iblk m c 0 t : IVec S1x1x65536 32) (ix3 0 0 ⟨65280 + b.val, by omega⟩) = BitVec.ofNat 32 (tok 0 b).val := by
      have := hseq 0 (by omega) b
      rw [htv] at this
      rw [← this]; unfold wordAt; pointwise [k0_pay14]
    rw [hQ hw (iblk m c 0 t) i b (tok 0 b) hk, htv]; rfl
  have hx : ∀ (i : Fin 64) (b : Fin 256), k0_pay12 (F := Ideal) (ix2 i b)
      = ((walkSum (weightsOf m c).keyR (weightsOf m c).seenR tok (lastQuery (weightsOf m c) tok) b (256 * t.val) i : ℝ) : EReal) := by
    intro i b
    rw [htv]
    exact Ideal.ofBits_zero_f32
  rw [outsAt0_A m c t h0 h1]
  have hT' := hT hw
  refine ⟨?_, fun i b => ?_, fun _ i b => ?_, fun h => by omega⟩ <;> dsimp only
  · rw [table_A_value]
    exact hT'
  · rw [query_A_value]
    exact queryAfter_walk hT' _ tok _ (256 * t.val) _ _ hseq (firstCounts t) hz 256 le_rfl i b
  · rw [out_A_value]
    exact outAfter_walk hT' _ tok _ (256 * t.val) _ _ hseq (firstCounts t) hz _ hx 256 le_rfl i b

include hw htok in
theorem left_next (t : Fin cfg0.N) (h0 : ¬t.val % 8 = 0)
    (hp : Left (weightsOf m c) tok (t.val - 1) (outsAt0 m c (t.val - 1) (Nat.lt_of_le_of_lt (Nat.sub_le _ _) t.isLt))) :
    Left (weightsOf m c) tok t.val (outsAt0 m c t.val t.isLt) := by
  have ht := (idx t).2.1
  have hseq := words htok t
  have hn : 256 * (t.val - 1 + 1) = 256 * t.val := by omega
  obtain ⟨hT, hz, hx, -⟩ := hp
  rw [hn] at hz hx
  have hx := hx (by omega)
  have hq := queryAfter_walk hT _ tok _ (256 * t.val) _ _ hseq (firstCounts t) hz 256 le_rfl
  have ho := outAfter_walk hT _ tok _ (256 * t.val) _ _ hseq (firstCounts t) hz _ hx 256 le_rfl
  by_cases h1 : t.val % 8 = 7
  · rw [outsAt0_C m c t h0 h1]
    refine ⟨hT, ?_, fun h => by omega, fun _ o b => ?_⟩ <;> dsimp only
    · rw [query_C_value]
      exact hq
    rw [out_C_value]
    have hl := last_apply (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t)
    rw [weights_eq] at hl
    refine (hl _ o b).trans ?_
    have h2048 : 256 * t.val + 256 = 2048 := by omega
    rw [← h2048, ← ho o b]
    rfl
  · rw [outsAt0_B m c t h0 h1]
    refine ⟨hT, ?_, fun _ => ?_, fun h => by omega⟩ <;> dsimp only
    · rw [query_B_value]
      exact hq
    · rw [out_B_value]
      exact ho

include hw htok in
theorem left (n : ℕ) (hn : n < cfg0.N) : Left (weightsOf m c) tok n (outsAt0 m c n hn) := by
  induction n with
  | zero => exact left_first hw htok ⟨0, hn⟩ rfl (by show ¬0 % 8 = 7; decide)
  | succ n ih =>
    have h8 : n + 1 < 8 := (idx ⟨n + 1, hn⟩).2.1
    exact left_next hw htok ⟨n + 1, hn⟩ (by show ¬(n + 1) % 8 = 0; omega) (ih (by omega))

/-- The array the region leaves is the last point's output. -/
theorem final (hN : 7 < cfg0.N) : (dats m 0 c).arrAt 15 (cfgs 0).N = (outsAt0 m c 7 hN).1 := by
  refine (dats m 0 c).arrAt_eq_of_after_last 15 t0_7 (by decide +kernel) _ fun j => ?_
  blk_simp
  rw [after0_15]
  have same : ∀ n (h : n < cfg0.N), n = 7 → (outsAt0 m c n h).1 = (outsAt0 m c 7 hN).1 := by
    rintro n h rfl
    rfl
  exact congrFun (same _ _ rfl) j

end Points

/-- The result array: what the host's transpose makes of it. -/
theorem tail (c : Dev nD) (hN : 7 < cfg0.N) : Pipeline.afterTail₀ cfgs (dats m) 0 (V0 m) [hostOps1] c main_v9
    = transpose S256x64 [1, 0] (outsAt0 m c 7 hN).1 transposes_S64x256_S256x64_1_0 := by
  rw [← final hN]
  show StableHlo.after hostOps1 _ _ = _
  after_reads_simp
  exact congrArg (transpose S256x64 [1, 0] · transposes_S64x256_S256x64_1_0) (Pipeline.withArrays_arr (cfgs 0).spec winFacts0.arr_inj c _ _ 15)

end Cert.KernelIdeal.Value

end
-- ==== Proof.RefRow.lean ====
/- The reference's hidden rows, keys, values and queries, read at an index. -/
module

public import proofs.«01_k».proof.Proof.Gen.ReferenceIdeal
public import proofs.«01_k».proof.Proof.Spec
public import Idealize.ShloMosaic.Lib.Pointwise

@[expose] public section

set_option maxRecDepth 16384

noncomputable section

namespace Cert.ReferenceIdeal.Rows

open Cert.ReferenceIdeal Cert.ReferenceIdeal.Gen
open Idealize.ShloMosaic Idealize.ShloMosaic.TcCoe Idealize.SL.Sem
open Cert.Spec

/-- The embedding's row of every token. -/
def tokenRows (E : FVec Ideal S64x64 .f32) (s : IVec S256x2048 32) : FVec Ideal S256x2048x64 .f32 :=
  Host.gather gather_S64x64_S256x2048x1_S256x2048x64_2_0_n_n_0_2_164 E (broadcastInDim S256x2048x1 ![0, 1] bcast_S256x2048_S256x2048x1_0_1
    (select (cmpi .slt s (broadcastInDim S256x2048 ![] bcast_S_S256x2048 (constantI S_ 32 0#32)))
      (addi s (broadcastInDim S256x2048 ![] bcast_S_S256x2048 (constantI S_ 32 64#32))) s))

/-- The feed-forward part's inner layer, before its cut at zero. -/
def innerRows (R : FVec Ideal S256x2048x64 .f32) (w1 : FVec Ideal S64x128 .f32) (b1 : FVec Ideal S128 .f32) : FVec Ideal S256x2048x128 .f32 :=
  addf (Host.dotGeneral dot_S256x2048x64_S64x128_S256x2048x128_2_0_01_1_n_n none R w1)
    (broadcastInDim S256x2048x128 ![0, 1, 2] bcast_S1x1x128_S256x2048x128_0_1_2 (broadcastInDim S1x1x128 ![2] bcast_S128_S1x1x128_2 b1))

/-- The rows and their feed-forward part. -/
def mixedRows (R : FVec Ideal S256x2048x64 .f32) (H : FVec Ideal S256x2048x128 .f32) (w2 : FVec Ideal S128x64 .f32) (b2 : FVec Ideal S64 .f32) :
    FVec Ideal S256x2048x64 .f32 :=
  addf R (addf (Host.dotGeneral dot_S256x2048x128_S128x64_S256x2048x64_2_0_01_1_n_n none
      (maximumf H (broadcastInDim S256x2048x128 ![] bcast_S_S256x2048x128 (constant S_ .f32 0x00000000#32))) w2)
    (broadcastInDim S256x2048x64 ![0, 1, 2] bcast_S1x1x64_S256x2048x64_0_1_2 (broadcastInDim S1x1x64 ![2] bcast_S64_S1x1x64_2 b2)))

/-- Each row's sum over 64. -/
def meanRows (X : FVec Ideal S256x2048x64 .f32) : FVec Ideal S256x2048x1 .f32 :=
  Host.divf (broadcastInDim S256x2048x1 ![0, 1] bcast_S256x2048_S256x2048x1_0_1
      (Host.reduceAdd X (constant S_ .f32 0x00000000#32) reducesTo_S256x2048x64_S256x2048_d2 h_S_))
    (broadcastInDim S256x2048x1 ![] bcast_S_S256x2048x1 (constant S_ .f32 0x42800000#32))

/-- The rows less their means. -/
def centredRows (X : FVec Ideal S256x2048x64 .f32) : FVec Ideal S256x2048x64 .f32 :=
  subf X (broadcastInDim S256x2048x64 ![0, 1, 2] bcast_S256x2048x1_S256x2048x64_0_1_2 (meanRows X))

/-- The normalised rows, scaled and shifted. -/
def normRows (X : FVec Ideal S256x2048x64 .f32) (g b : FVec Ideal S64 .f32) : FVec Ideal S256x2048x64 .f32 :=
  addf (mulf (mulf (centredRows X) (broadcastInDim S256x2048x64 ![0, 1, 2] bcast_S256x2048x1_S256x2048x64_0_1_2
      (Host.rsqrt (addf (meanRows (mulf (centredRows X) (centredRows X)))
        (broadcastInDim S256x2048x1 ![] bcast_S_S256x2048x1 (constant S_ .f32 0x3727C5AC#32))))))
      (broadcastInDim S256x2048x64 ![0, 1, 2] bcast_S1x1x64_S256x2048x64_0_1_2 (broadcastInDim S1x1x64 ![2] bcast_S64_S1x1x64_2 g)))
    (broadcastInDim S256x2048x64 ![0, 1, 2] bcast_S1x1x64_S256x2048x64_0_1_2 (broadcastInDim S1x1x64 ![2] bcast_S64_S1x1x64_2 b))

/-- All but the last time's rows, times a matrix. -/
def projectRows (H : FVec Ideal S256x2048x64 .f32) (w : FVec Ideal S64x64 .f32) : FVec Ideal S256x2047x64 .f32 :=
  Host.dotGeneral dot_S256x2047x64_S64x64_S256x2047x64_2_0_01_1_n_n none
    (extractStridedSlice S256x2047x64 ![0, 0, 0] H slices_S256x2048x64_S256x2047x64_0_0_0) w

/-- Rows of length one. -/
def unitRows (K : FVec Ideal S256x2047x64 .f32) : FVec Ideal S256x2047x64 .f32 :=
  Host.divf K (broadcastInDim S256x2047x64 ![0, 1, 2] bcast_S256x2047x1_S256x2047x64_0_1_2
    (maximumf (Host.sqrt (broadcastInDim S256x2047x1 ![0, 1] bcast_S256x2047_S256x2047x1_0_1
        (Host.reduceAdd (mulf K K) (constant S_ .f32 0x00000000#32) reducesTo_S256x2047x64_S256x2047_d2 h_S_)))
      (broadcastInDim S256x2047x1 ![] bcast_S_S256x2047x1 (constant S_ .f32 0x2B8CBCCC#32))))

/-- The rows with the time in front. -/
def timeFirst (K : FVec Ideal S256x2047x64 .f32) : FVec Ideal S2047x256x64 .f32 :=
  transpose S2047x256x64 [1, 0, 2] K transposes_S256x2047x64_S2047x256x64_1_0_2

/-- The last layers' answer of the memory and the rows. -/
def answer (H : FVec Ideal S256x2048x64 .f32) (M : FVec Ideal S256x64x64 .f32) (wq wrp : FVec Ideal S64x64 .f32) (brp : FVec Ideal S64 .f32)
    (wout : FVec Ideal S64x64 .f32) (bout : FVec Ideal S64 .f32) : FVec Ideal S256x64 .f32 :=
  addf (Host.dotGeneral dot_S256x64_S64x64_S256x64_1_0_0_1_n_n none
      (addf (Host.dotGeneral dot_S256x64_S64x64_S256x64_1_0_0_1_n_n none
          (Host.dotGeneral dot_S256x64x64_S256x64_S256x64_2_1_1_n_0_0 none M
            (Host.dotGeneral dot_S256x64_S64x64_S256x64_1_0_0_1_n_n none
              (shapeCast S256x64 (extractStridedSlice S256x1x64 ![0, 2047, 0] H slices_S256x2048x64_S256x1x64_0_2047_0) shapeCasts_S256x1x64_S256x64) wq))
          wrp)
        (broadcastInDim S256x64 ![0, 1] bcast_S1x64_S256x64_0_1 (broadcastInDim S1x64 ![1] bcast_S64_S1x64_1 brp)))
      wout)
    (broadcastInDim S256x64 ![0, 1] bcast_S1x64_S256x64_0_1 (broadcastInDim S1x64 ![1] bcast_S64_S1x64_1 bout))

/-! Each read at an index. -/

/-- The gather's row is the one its start index names, where that is one of the 64. -/
theorem gather_row (E : FVec Ideal S64x64 .f32) (x : IVec S256x2048x1 32) (b : Fin 256) (t : Fin 2048) (j v : Fin 64)
    (h : x (ix3 b t 0) = BitVec.ofNat 32 v.val) :
    Host.gather gather_S64x64_S256x2048x1_S256x2048x64_2_0_n_n_0_2_164 E x (ix3 b t j) = E (ix2 v j) := by
  unfold Host.gather
  refine congrArg E (funext fun a => Fin.ext ?_)
  show GatherDims.start _ (ix3 b t j) x a + GatherDims.batchCoord _ (ix3 b t j) a + GatherDims.offCoord _ (ix3 b t j) a = _
  have hi : gather_S64x64_S256x2048x1_S256x2048x64_2_0_n_n_0_2_164.siIdx (ix3 b t j)
      ⟨List.idxOf (0 : Fin 2) gather_S64x64_S256x2048x1_S256x2048x64_2_0_n_n_0_2_164.startIndexMap,
        List.idxOf_lt_length_iff.2 (List.mem_singleton.mpr rfl)⟩ = ix3 b t 0 := by
    funext d
    match d with
    | ⟨0, _⟩ => rfl
    | ⟨1, _⟩ => rfl
    | ⟨2, _⟩ => rfl
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S64x64_S256x2048x1_S256x2048x64_2_0_n_n_0_2_164.startIndexMap from List.mem_singleton.mpr rfl), hi, h]
    exact (by decide : ∀ v : Fin 64, min (BitVec.ofNat 32 v.val).toInt.toNat (64 - 1) + 0 + 0 = v.val) v
  · unfold GatherDims.start
    rw [dif_neg (show (1 : Fin 2) ∉ gather_S64x64_S256x2048x1_S256x2048x64_2_0_n_n_0_2_164.startIndexMap from by decide)]
    show 0 + 0 + j.val = j.val
    omega

theorem tokenRows_apply (E : FVec Ideal S64x64 .f32) (s : IVec S256x2048 32) (b : Fin 256) (t : Fin 2048) (j v : Fin 64)
    (h : s (ix2 b t) = BitVec.ofNat 32 v.val) : tokenRows E s (ix3 b t j) = E (ix2 v j) := by
  refine gather_row E _ b t j v ?_
  pointwise [h]
  rw [(by decide : ∀ v : Fin 64, IntOp.cmpi .slt (BitVec.ofNat 32 v.val) 0#32 = 0#1) v]
  rfl

variable (b : Fin 256) (t : Fin 2048)

theorem innerRows_apply (R : FVec Ideal S256x2048x64 .f32) (w1 : FVec Ideal S64x128 .f32) (b1 : FVec Ideal S128 .f32) (h : Fin 128) :
    innerRows R w1 b1 (ix3 b t h) = ∑ i, R (ix3 b t i) * w1 (ix2 i h) + b1 (ix1 h) := by
  pointwise [innerRows]

theorem mixedRows_apply (R : FVec Ideal S256x2048x64 .f32) (H : FVec Ideal S256x2048x128 .f32) (w2 : FVec Ideal S128x64 .f32) (b2 : FVec Ideal S64 .f32)
    (j : Fin 64) : mixedRows R H w2 b2 (ix3 b t j)
      = R (ix3 b t j) + (∑ h, max (H (ix3 b t h)) 0 * w2 (ix2 h j) + b2 (ix1 j)) := by
  pointwise [mixedRows]

theorem centredRows_apply (X : FVec Ideal S256x2048x64 .f32) (j : Fin 64) :
    centredRows X (ix3 b t j) = centred (fun i => X (ix3 b t i)) j := by
  pointwise [centredRows, meanRows, centred]

theorem normRows_apply (X : FVec Ideal S256x2048x64 .f32) (g a : FVec Ideal S64 .f32) (j : Fin 64) :
    normRows X g a (ix3 b t j) = normed (fun i => X (ix3 b t i)) (fun i => g (ix1 i)) (fun i => a (ix1 i)) j := by
  pointwise [normRows, meanRows, normed, centredRows_apply]

variable (s : Fin 2047)

theorem projectRows_apply (H : FVec Ideal S256x2048x64 .f32) (w : FVec Ideal S64x64 .f32) (i : Fin 64) :
    projectRows H w (ix3 b s i) = project (fun k i => w (ix2 k i)) (fun k => H (ix3 b s.castSucc k)) i := by
  pointwise [projectRows, project]
  exact Finset.sum_congr rfl fun k _ => mul_comm _ _

theorem unitRows_apply (K : FVec Ideal S256x2047x64 .f32) (i : Fin 64) : unitRows K (ix3 b s i) = unit (fun k => K (ix3 b s k)) i := by
  pointwise [unitRows, unit]

theorem timeFirst_apply (K : FVec Ideal S256x2047x64 .f32) (i : Fin 64) : timeFirst K (ix3 s b i) = K (ix3 b s i) := by
  pointwise [timeFirst]

theorem answer_apply (H : FVec Ideal S256x2048x64 .f32) (M : FVec Ideal S256x64x64 .f32) (wq wrp : FVec Ideal S64x64 .f32) (brp : FVec Ideal S64 .f32)
    (wout : FVec Ideal S64x64 .f32) (bout : FVec Ideal S64 .f32) (o : Fin 64) :
    answer H M wq wrp brp wout bout (ix2 b o)
      = ∑ y, (∑ x, (∑ i, M (ix3 b x i) * ∑ k, H (ix3 b (Fin.last 2047) k) * wq (ix2 k i)) * wrp (ix2 x y) + brp (ix1 y)) * wout (ix2 y o) + bout (ix1 o) := by
  pointwise [answer]
  rfl

end Cert.ReferenceIdeal.Rows

end
-- ==== Proof.RefEntry.lean ====
/- What the reference's loop starts from. -/
module

public import proofs.«01_k».proof.Proof.RefFrame
public import proofs.«01_k».proof.Proof.RefRow

@[expose] public section

set_option maxRecDepth 16384

noncomputable section

namespace Cert.ReferenceIdeal.Value

open Cert.ReferenceIdeal Cert.ReferenceIdeal.Gen Cert.ReferenceIdeal.Rows
open Idealize.ShloMosaic Idealize.ShloMosaic.TcCoe Idealize.SL.Sem
open Idealize.ShloMosaic.StableHlo
open Cert.Spec

variable (m : (ℓ : Loc nD τ sig) → Buf (Elt Ideal) ℓ) (c : Dev nD)

/-- The weights as the arguments hold them. -/
def weightsOf : Weights where
  embed i j := (m ((c : Thread nD τ).loc main_arg1) : FVec Ideal S64x64 .f32) (ix2 i j)
  w1 i j := (m ((c : Thread nD τ).loc main_arg2) : FVec Ideal S64x128 .f32) (ix2 i j)
  b1 j := (m ((c : Thread nD τ).loc main_arg3) : FVec Ideal S128 .f32) (ix1 j)
  w2 i j := (m ((c : Thread nD τ).loc main_arg4) : FVec Ideal S128x64 .f32) (ix2 i j)
  b2 j := (m ((c : Thread nD τ).loc main_arg5) : FVec Ideal S64 .f32) (ix1 j)
  g j := (m ((c : Thread nD τ).loc main_arg6) : FVec Ideal S64 .f32) (ix1 j)
  lb j := (m ((c : Thread nD τ).loc main_arg7) : FVec Ideal S64 .f32) (ix1 j)
  wk i j := (m ((c : Thread nD τ).loc main_arg8) : FVec Ideal S64x64 .f32) (ix2 i j)
  wv i j := (m ((c : Thread nD τ).loc main_arg9) : FVec Ideal S64x64 .f32) (ix2 i j)
  wq i j := (m ((c : Thread nD τ).loc main_arg10) : FVec Ideal S64x64 .f32) (ix2 i j)
  wrp i j := (m ((c : Thread nD τ).loc main_arg11) : FVec Ideal S64x64 .f32) (ix2 i j)
  brp j := (m ((c : Thread nD τ).loc main_arg12) : FVec Ideal S64 .f32) (ix1 j)
  wout i j := (m ((c : Thread nD τ).loc main_arg13) : FVec Ideal S64x64 .f32) (ix2 i j)
  bout j := (m ((c : Thread nD τ).loc main_arg14) : FVec Ideal S64 .f32) (ix1 j)

/-- The tokens' embedding rows. -/
def embedded : FVec Ideal S256x2048x64 .f32 := tokenRows (m ((c : Thread nD τ).loc main_arg1)) (m ((c : Thread nD τ).loc main_arg0))

/-- The hidden rows. -/
def hidden : FVec Ideal S256x2048x64 .f32 :=
  normRows (mixedRows (embedded m c) (innerRows (embedded m c) (m ((c : Thread nD τ).loc main_arg2)) (m ((c : Thread nD τ).loc main_arg3)))
    (m ((c : Thread nD τ).loc main_arg4)) (m ((c : Thread nD τ).loc main_arg5))) (m ((c : Thread nD τ).loc main_arg6)) (m ((c : Thread nD τ).loc main_arg7))

theorem entry_hidden : entryContents preI m c (Proc.devRef .tc main_v40) = hidden m c := by
  simp only [entryContents, afterL_cons, afterL_nil]
  after_reads_simp
  rfl

theorem entry_keys : entryContents preI m c (Proc.devRef .tc main_v52_0)
    = timeFirst (unitRows (projectRows (hidden m c) (m ((c : Thread nD τ).loc main_arg8)))) := by
  simp only [entryContents, afterL_cons, afterL_nil]
  after_reads_simp
  rfl

theorem entry_values : entryContents preI m c (Proc.devRef .tc main_v52_1)
    = timeFirst (projectRows (hidden m c) (m ((c : Thread nD τ).loc main_arg9))) := by
  simp only [entryContents, afterL_cons, afterL_nil]
  after_reads_simp
  rfl

theorem entry_memory (b : Fin 256) (o i : Fin 64) : (entryContents preI m c (Proc.devRef .tc main_v52_3) : FVec Ideal S256x64x64 .f32) (ix3 b o i) = (0 : EReal) := by
  have h : entryContents preI m c (Proc.devRef .tc main_v52_3)
      = (broadcastInDim S256x64x64 ![] bcast_S_S256x64x64 (constant S_ .f32 0x00000000#32) : FVec Ideal S256x64x64 .f32) := by
    simp only [entryContents, afterL_cons, afterL_nil]
    after_reads_simp
    rfl
  rw [h]
  pointwise

/-- A hidden row is its token's. -/
theorem hidden_apply (b : Fin 256) (t : Fin 2048) (v : Fin 64)
    (h : (m ((c : Thread nD τ).loc main_arg0) : IVec S256x2048 32) (ix2 b t) = BitVec.ofNat 32 v.val) (j : Fin 64) :
    hidden m c (ix3 b t j) = (weightsOf m c).row v j := by
  have hE : ∀ i, embedded m c (ix3 b t i) = (weightsOf m c).embed v i := fun i => tokenRows_apply _ _ b t i v h
  refine (normRows_apply b t _ _ _ j).trans (congrArg (fun x => normed x _ _ j) (funext fun i => ?_))
  rw [mixedRows_apply]
  simp only [innerRows_apply, hE]
  rfl

variable (b : Fin 256) (s : Fin 2047) (v : Fin 64)
    (h : (m ((c : Thread nD τ).loc main_arg0) : IVec S256x2048 32) (ix2 b s.castSucc) = BitVec.ofNat 32 v.val)
include h

/-- A key is its token's. -/
theorem keys_apply (i : Fin 64) : (entryContents preI m c (Proc.devRef .tc main_v52_0) : FVec Ideal S2047x256x64 .f32) (ix3 s b i) = (weightsOf m c).key v i := by
  rw [entry_keys, timeFirst_apply, unitRows_apply]
  refine congrArg (fun x => unit x i) (funext fun k => ?_)
  exact (projectRows_apply b s _ _ k).trans (congrArg (fun x => project _ x k) (funext fun a => hidden_apply m c b _ v h a))

/-- A value is its token's. -/
theorem values_apply (i : Fin 64) : (entryContents preI m c (Proc.devRef .tc main_v52_1) : FVec Ideal S2047x256x64 .f32) (ix3 s b i) = (weightsOf m c).value v i := by
  rw [entry_values, timeFirst_apply]
  exact (projectRows_apply b s _ _ i).trans (congrArg (fun x => project _ x i) (funext fun a => hidden_apply m c b _ v h a))

end Cert.ReferenceIdeal.Value

end
-- ==== Proof.RefStep.lean ====
/- One trip of the reference's loop, read at an index. -/
module

public import proofs.«01_k».proof.Proof.RefRow

@[expose] public section

set_option maxRecDepth 16384

noncomputable section

namespace Cert.ReferenceIdeal.Rows

open Cert.ReferenceIdeal Cert.ReferenceIdeal.Gen
open Idealize.ShloMosaic Idealize.ShloMosaic.TcCoe Idealize.SL.Sem
open Cert.Spec

/-- One time's rows. -/
def slab (K : FVec Ideal S2047x256x64 .f32) (n : IVec S_ 32) : FVec Ideal S256x64 .f32 :=
  shapeCast S256x64 (Host.dynamicSlice S1x256x64 K (fun k => (((![n, constantI S_ 32 0#32, constantI S_ 32 0#32] : Fin 3 → IVec S_ 32)) k
    (Shape.Idx.first h_S_)).toInt) sliceFits_S2047x256x64_S1x256x64) shapeCasts_S1x256x64_S256x64

/-- The memory after one time. -/
def trip (M : FVec Ideal S256x64x64 .f32) (K V : FVec Ideal S2047x256x64 .f32) (n : IVec S_ 32) : FVec Ideal S256x64x64 .f32 :=
  addf M (mulf (broadcastInDim S256x64x64 ![0, 1, 2] bcast_S256x64x1_S256x64x64_0_1_2 (broadcastInDim S256x64x1 ![0, 1] bcast_S256x64_S256x64x1_0_1
      (subf (slab V n) (Host.dotGeneral dot_S256x64x64_S256x64_S256x64_2_1_1_n_0_0 none M (slab K n)))))
    (broadcastInDim S256x64x64 ![0, 1, 2] bcast_S256x1x64_S256x64x64_0_1_2 (broadcastInDim S256x1x64 ![0, 2] bcast_S256x64_S256x1x64_0_2 (slab K n))))

theorem slice_apply (K : FVec Ideal S2047x256x64 .f32) (st : Fin 3 → ℤ) (n : Fin 2047) (h0 : st 0 = n.val) (h1 : st 1 = (0 : ℕ)) (h2 : st 2 = (0 : ℕ))
    (b : Fin 256) (i : Fin 64) :
    shapeCast S256x64 (Host.dynamicSlice S1x256x64 K st sliceFits_S2047x256x64_S1x256x64) shapeCasts_S1x256x64_S256x64 (ix2 b i) = K (ix3 n b i) := by
  have e0 : Host.clampedStart S2047x256x64 S1x256x64 rfl st 0 = n.val :=
    Host.clampedStart_of_le (s := S2047x256x64) (t := S1x256x64) rfl st 0 n.val h0 (by show n.val + 1 ≤ 2047; omega)
  have e1 : Host.clampedStart S2047x256x64 S1x256x64 rfl st 1 = 0 := Host.clampedStart_of_le (s := S2047x256x64) (t := S1x256x64) rfl st 1 0 h1 (by decide)
  have e2 : Host.clampedStart S2047x256x64 S1x256x64 rfl st 2 = 0 := Host.clampedStart_of_le (s := S2047x256x64) (t := S1x256x64) rfl st 2 0 h2 (by decide)
  pointwise
  simp only [e0, e1, e2, Nat.zero_add]

theorem slab_apply (K : FVec Ideal S2047x256x64 .f32) (n : Fin 2047) (b : Fin 256) (i : Fin 64) :
    slab K (fun _ => BitVec.ofNat 32 n.val) (ix2 b i) = K (ix3 n b i) := by
  refine slice_apply K _ n ?_ rfl rfl b i
  have hn := n.isLt
  show (BitVec.ofNat 32 n.val).toInt = n.val
  rw [BitVec.toInt_eq_toNat_of_lt (by rw [BitVec.toNat_ofNat]; omega), BitVec.toNat_ofNat]
  omega

theorem trip_apply (M : FVec Ideal S256x64x64 .f32) (K V : FVec Ideal S2047x256x64 .f32) (n : Fin 2047) (b : Fin 256) (o i : Fin 64) :
    trip M K V (fun _ => BitVec.ofNat 32 n.val) (ix3 b o i)
      = M (ix3 b o i) + (V (ix3 n b o) - ∑ j, M (ix3 b o j) * K (ix3 n b j)) * K (ix3 n b i) := by
  pointwise [trip, slab_apply]

end Cert.ReferenceIdeal.Rows

end
-- ==== Proof.RefValue.lean ====
/- The reference's result. -/
module

public import proofs.«01_k».proof.Proof.RefEntry
public import proofs.«01_k».proof.Proof.RefStep
public import proofs.«01_k».proof.Proof.Delta

@[expose] public section

set_option maxRecDepth 16384

noncomputable section

namespace Cert.ReferenceIdeal.Value

open Cert.ReferenceIdeal Cert.ReferenceIdeal.Gen Cert.ReferenceIdeal.Rows
open Idealize.ShloMosaic Idealize.ShloMosaic.TcCoe Idealize.SL.Sem
open Idealize.ShloMosaic.StableHlo
open Cert.Spec

variable (m : (ℓ : Loc nD τ sig) → Buf (Elt Ideal) ℓ) (c : Dev nD)

/-- The memory before trip `k`. -/
abbrev memoryAt (k : ℕ) : FVec Ideal S256x64x64 .f32 := atK m k c (Proc.devRef .tc main_v52_3)

theorem iterate_keys (V : Valuation τ sig (Elt Ideal)) (k : ℕ) : (STEP^[k] V) (Proc.devRef .tc main_v52_0) = V (Proc.devRef .tc main_v52_0) := by
  induction k with
  | zero => rfl
  | succ k ih => rw [Function.iterate_succ_apply', STEP_main_v52_0, ih]

theorem iterate_values (V : Valuation τ sig (Elt Ideal)) (k : ℕ) : (STEP^[k] V) (Proc.devRef .tc main_v52_1) = V (Proc.devRef .tc main_v52_1) := by
  induction k with
  | zero => rfl
  | succ k ih => rw [Function.iterate_succ_apply', STEP_main_v52_1, ih]

theorem step_trip (V : Valuation τ sig (Elt Ideal)) {M : FVec Ideal S256x64x64 .f32} {K W : FVec Ideal S2047x256x64 .f32} {n : IVec S_ 32}
    (h0 : V (Proc.devRef .tc main_v52_0) = K) (h1 : V (Proc.devRef .tc main_v52_1) = W) (h2 : V (Proc.devRef .tc main_v52_2) = n)
    (h3 : V (Proc.devRef .tc main_v52_3) = M) : STEP V (Proc.devRef .tc main_v52_3) = trip M K W n := by
  subst h0 h1 h2 h3
  exact STEP_main_v52_3 V

/-- The trip's counter is its number. -/
theorem counter (k : ℕ) : Scf.iv 0#32 1#32 k = BitVec.ofNat 32 k := by
  unfold Scf.iv
  simp

/-- One trip's memory, of the one before. -/
theorem memoryAt_succ (k : ℕ) : memoryAt m c (k + 1) = trip (memoryAt m c k) (entryContents preI m c (Proc.devRef .tc main_v52_0))
    (entryContents preI m c (Proc.devRef .tc main_v52_1)) (fun _ => BitVec.ofNat 32 k) := by
  have hk := atK_agree m c k
  refine (atK_agree m c (k + 1) main_v52_3 (by decide)).trans ?_
  rw [Function.iterate_succ_apply']
  refine step_trip _ (iterate_keys _ k) (iterate_values _ k) ?_ (hk main_v52_3 (by decide)).symm
  rw [← hk main_v52_2 (by decide), atK_ctr, counter]
  rfl

theorem after_post (V : Valuation τ sig (Elt Ideal)) : after hostOps0_5 V (Proc.devRef .tc main_v64)
    = answer (V (Proc.devRef .tc main_v40)) (V (Proc.devRef .tc main_v52_3)) (V (Proc.devRef .tc main_arg10)) (V (Proc.devRef .tc main_arg11))
        (V (Proc.devRef .tc main_arg12)) (V (Proc.devRef .tc main_arg13)) (V (Proc.devRef .tc main_arg14)) := by
  after_reads_simp
  rfl

/-- A buffer no trip writes is after the loop what it was at its entry. -/
theorem exit_keep {r : Ref sig .tc} (h : LoopKeeps r) :
    after condOps (atK m 2047 c) (Proc.devRef .tc r) = entryContents preI m c (Proc.devRef .tc r) :=
  (after_of_writes_sub condOps _ condOps_writes h.1).trans (atK_keep m c h 2047)

theorem exit_arg {r : Ref sig .tc} (h : LoopKeeps r ∧ PreKeeps r) :
    after condOps (atK m 2047 c) (Proc.devRef .tc r) = m ((c.tc : Thread nD τ).loc r) :=
  (exit_keep m c h.1).trans (entry_keep m c h.2)

/-- The result array. -/
theorem result_eq : finalContents condOps preI bodyI postI 2047 m c (Proc.devRef .tc main_v64)
    = answer (hidden m c) (memoryAt m c 2047) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) := by
  have h := after_post (after condOps (atK m 2047 c))
  rw [exit_keep m c (r := main_v40) (by decide), entry_hidden, cond_keeps _ main_v52_3 (by decide), exit_arg m c (r := main_arg10) (by decide),
    exit_arg m c (r := main_arg11) (by decide), exit_arg m c (r := main_arg12) (by decide), exit_arg m c (r := main_arg13) (by decide),
    exit_arg m c (r := main_arg14) (by decide)] at h
  rw [finalContents, afterL_cons, afterL_nil]
  exact h

/-- The last two layers of equal rows. -/
theorem layers_congr {R R' : Fin 64 → EReal} (h : ∀ x, R x = R' x) (P : Fin 64 → Fin 64 → EReal) (p O : Fin 64 → EReal) (q : EReal) :
    ∑ y, (∑ x, R x * P x y + p y) * O y + q = ∑ y, (∑ x, R' x * P x y + p y) * O y + q := by
  rw [funext h]

section Tokens

variable {m c} (hw : (weightsOf m c).AreNums) {time : ℕ → Fin 256 → Fin 64}
    (htime : ∀ (t : ℕ) (ht : t < 2048) (b : Fin 256), (m ((c : Thread nD τ).loc main_arg0) : IVec S256x2048 32) (ix2 b ⟨t, ht⟩) = BitVec.ofNat 32 (time t b).val)
include hw htime

/-- The memory before trip `k` is the delta rule's after `k` pairs. -/
theorem memoryAt_apply (b : Fin 256) (k : ℕ) (hk : k ≤ 2047) : ∀ o i : Fin 64, memoryAt m c k (ix3 b o i)
    = ((Delta.memory (fun t => (weightsOf m c).keyR (time t b)) (fun t => (weightsOf m c).valueR (time t b)) k o i : ℝ) : EReal) := by
  induction k with
  | zero => exact fun o i => (entry_memory m c b o i).trans EReal.coe_zero.symm
  | succ k ih =>
    intro o i
    have hM := ih (by omega)
    have ht := htime k (by omega) b
    have hK : ∀ j, (entryContents preI m c (Proc.devRef .tc main_v52_0) : FVec Ideal S2047x256x64 .f32) (ix3 ⟨k, hk⟩ b j)
        = (((weightsOf m c).keyR (time k b) j : ℝ) : EReal) := fun j => (keys_apply m c b ⟨k, hk⟩ _ ht j).trans (Weights.keyR_coe hw _ j).symm
    have hV : (entryContents preI m c (Proc.devRef .tc main_v52_1) : FVec Ideal S2047x256x64 .f32) (ix3 ⟨k, hk⟩ b o)
        = (((weightsOf m c).valueR (time k b) o : ℝ) : EReal) := (values_apply m c b ⟨k, hk⟩ _ ht o).trans (Weights.valueR_coe hw _ o).symm
    rw [memoryAt_succ]
    refine (trip_apply _ _ _ ⟨k, hk⟩ b o i).trans ?_
    rw [hM, hV]
    simp only [hM, hK]
    simp only [← EReal.coe_mul, ← coe_sum, ← EReal.coe_sub, ← EReal.coe_add]
    rfl

/-- The memory read with the last token's query, over the walk backwards from the last token. -/
theorem read_apply (b : Fin 256) (x : Fin 64) :
    (∑ i, memoryAt m c 2047 (ix3 b x i) * ∑ k, hidden m c (ix3 b (Fin.last 2047) k) * (weightsOf m c).wq k i : EReal)
      = ((∑ j ∈ Finset.range 2048, Delta.weight (fun n => (weightsOf m c).keyR (time (2047 - n) b)) Delta.counts ((weightsOf m c).queryR (time 2047 b)) j
          * (weightsOf m c).valueR (time (2047 - j) b) x : ℝ) : EReal) := by
  have hq : ∀ i, (∑ k, hidden m c (ix3 b (Fin.last 2047) k) * (weightsOf m c).wq k i : EReal) = (((weightsOf m c).queryR (time 2047 b) i : ℝ) : EReal) := by
    intro i
    rw [Weights.queryR_coe hw]
    show _ = ∑ k, (weightsOf m c).wq k i * (weightsOf m c).row (time 2047 b) k
    refine Finset.sum_congr rfl fun k _ => ?_
    rw [hidden_apply m c b (Fin.last 2047) (time 2047 b) (htime 2047 (by omega) b) k, mul_comm]
  simp only [hq, memoryAt_apply hw htime b 2047 le_rfl]
  simp only [← EReal.coe_mul, ← coe_sum]
  exact congrArg _ (Delta.memory_apply (fun t => (weightsOf m c).keyR (time t b)) (fun t => (weightsOf m c).valueR (time t b))
    ((weightsOf m c).queryR (time 2047 b)) 2047 x)

/-- The result: the walk's sum of values through the last two layers' matrices, and their shifts. -/
theorem result_apply (b : Fin 256) (o : Fin 64) : (finalContents condOps preI bodyI postI 2047 m c (Proc.devRef .tc main_v64) : FVec Ideal S256x64 .f32) (ix2 b o)
    = ((∑ j ∈ Finset.range 2048, Delta.weight (fun n => (weightsOf m c).keyR (time (2047 - n) b)) Delta.counts ((weightsOf m c).queryR (time 2047 b)) j
          * (weightsOf m c).seenR (time (2047 - j) b) o : ℝ) : EReal)
      + (∑ y, (weightsOf m c).wout y o * (weightsOf m c).brp y + (weightsOf m c).bout o) := by
  refine (congrFun (result_eq m c) (ix2 b o)).trans ((answer_apply b _ _ _ _ _ _ _ o).trans ?_)
  exact (layers_congr (read_apply hw htime b) (weightsOf m c).wrp (weightsOf m c).brp (fun y => (weightsOf m c).wout y o) ((weightsOf m c).bout o)).trans
    (last_layers hw (fun j => Delta.weight (fun n => (weightsOf m c).keyR (time (2047 - n) b)) Delta.counts ((weightsOf m c).queryR (time 2047 b)) j)
      (fun j => time (2047 - j) b) 2048 o)

end Tokens

end Cert.ReferenceIdeal.Value

end
-- ==== Proof.Result.lean ====
/- The two runs leave one result: both hold the weighted sum over the sequence and the last layers' shifts. -/
module

public import proofs.«01_k».proof.Defs
public import proofs.«01_k».proof.Proof.Pre
public import proofs.«01_k».proof.Proof.Run
public import proofs.«01_k».proof.Proof.RefValue

@[expose] public section

set_option maxRecDepth 16384

noncomputable section

namespace Cert.Result

open Cert.KernelIdeal Cert.KernelIdeal.Gen Cert.Spec
open Idealize.ShloMosaic Idealize.ShloMosaic.TcCoe Idealize.SL.Sem
open Cert.Pre_tokens_and_weights (nums tokens tokenOf)
open Cert.Pre_tokens_and_weights.Facts

variable {m : (ℓ : Loc nD τ sig) → Buf (Elt Ideal) ℓ} (hpre : Pre_KernelIdeal_tokens_and_weights m) (c : Dev nD)
include hpre

/-- Under the precondition the weights are real numbers. -/
theorem weights : (Cert.KernelIdeal.Value.weightsOf m c).AreNums := by
  obtain ⟨-, h1, h2, h3, h4, h5, h6, h7, h8, h9, h10, h11, h13⟩ := hpre c
  exact ⟨fun i j => nums _ bcast_S_S64x64 h1 (ix2 i j), fun i j => nums _ bcast_S_S64x128 h2 (ix2 i j), fun i => nums _ bcast_S_S128 h3 (ix1 i),
    fun i j => nums _ bcast_S_S128x64 h4 (ix2 i j), fun i => nums _ bcast_S_S64 h5 (ix1 i), fun i => nums _ bcast_S_S64 h6 (ix1 i),
    fun i => nums _ bcast_S_S64 h7 (ix1 i), fun i j => nums _ bcast_S_S64x64 h8 (ix2 i j), fun i j => nums _ bcast_S_S64x64 h9 (ix2 i j),
    fun i j => nums _ bcast_S_S64x64 h10 (ix2 i j), fun i j => nums _ bcast_S_S64x64 h11 (ix2 i j), fun i j => nums _ bcast_S_S64x64 h13 (ix2 i j)⟩

/-- Under the precondition every word is its token. -/
theorem words (t : ℕ) (ht : t < 2048) (b : Fin 256) : (m ((c : Thread nD τ).loc main_arg0) : IVec S256x2048 32) (ix2 b ⟨t, ht⟩)
    = BitVec.ofNat 32 (tokenOf (m ((c : Thread nD τ).loc main_arg0)) t b).val := tokens _ (hpre c).1 t ht b

/-- The tokens from the last one back. -/
abbrev backward (m : (ℓ : Loc nD τ sig) → Buf (Elt Ideal) ℓ) (c : Dev nD) (n : ℕ) (b : Fin 256) : Fin 64 :=
  tokenOf (m ((c : Thread nD τ).loc main_arg0)) (2047 - n) b

omit hpre in
theorem points : 7 < cfg0.N := by decide +kernel

/-- The kernel's result array, entry by entry. -/
theorem kernel_apply (b : Fin 256) (o : Fin 64) :
    (Pipeline.afterTail₀ cfgs (dats m) 0 (V0 m) [hostOps1] c main_v9 : FVec Ideal S256x64 .f32) (ix2 b o)
    = ((∑ j ∈ Finset.range 2048, Delta.weight (fun n => (Cert.KernelIdeal.Value.weightsOf m c).keyR (backward m c n b)) Delta.counts
          ((Cert.KernelIdeal.Value.weightsOf m c).queryR (backward m c 0 b)) j * (Cert.KernelIdeal.Value.weightsOf m c).seenR (backward m c j b) o : ℝ) : EReal)
      + (∑ y, (Cert.KernelIdeal.Value.weightsOf m c).wout y o * (Cert.KernelIdeal.Value.weightsOf m c).brp y + (Cert.KernelIdeal.Value.weightsOf m c).bout o) := by
  rw [Cert.KernelIdeal.Value.tail m c points]
  have hl := Cert.KernelIdeal.Value.left (weights hpre c) (tok := backward m c) (fun n hn b => words hpre c _ _ b) 7 points
  refine .trans ?_ (hl.last rfl o b)
  generalize (outsAt0 m c 7 points).1 = x
  pointwise []

/-- The reference's result array is the kernel's. -/
theorem same {m' : (ℓ : Loc Cert.ReferenceIdeal.nD Cert.ReferenceIdeal.τ Cert.ReferenceIdeal.sig) → Buf (Elt Ideal) ℓ}
    (hW : Cert.ReferenceIdeal.Value.weightsOf m' c = Cert.KernelIdeal.Value.weightsOf m c)
    (hS : m' ((c.tc : Thread Cert.ReferenceIdeal.nD Cert.ReferenceIdeal.τ).loc Cert.ReferenceIdeal.main_arg0) = m ((c : Thread nD τ).loc main_arg0)) :
    (StableHlo.finalContents Cert.ReferenceIdeal.Value.condOps Cert.ReferenceIdeal.Value.preI Cert.ReferenceIdeal.Value.bodyI Cert.ReferenceIdeal.Value.postI 2047 m' c
      (Proc.devRef .tc Cert.ReferenceIdeal.main_v64) : FVec Ideal S256x64 .f32)
    = Pipeline.afterTail₀ cfgs (dats m) 0 (V0 m) [hostOps1] c main_v9 := by
  funext i
  obtain ⟨b, o, rfl⟩ : ∃ b o, i = ix2 b o := ⟨i 0, i 1, eq_ix2 i⟩
  have hr := Cert.ReferenceIdeal.Value.result_apply (m := m') (c := c) (by rw [hW]; exact weights hpre c)
    (fun t ht b => by rw [hS]; exact words hpre c t ht b) b o
  rw [hW] at hr
  exact hr.trans (kernel_apply hpre c b o).symm

omit hpre in
/-- Every execution of the kernel ends with its result array at the tail's contents. -/
theorem kernel_run (m : (ℓ : Loc nD τ sig) → Buf (Elt Ideal) ℓ) (g : Dev nD → PrngReg) :
    θ_run (defs (F := Ideal)) (onTc (τ := τ) (main (F := Ideal))) ⟨m, fun _ => 0, g⟩
      (fun r => ∀ c : Dev nD, r.2.mem ((c.tc : Thread nD τ).loc main_v9) = Pipeline.afterTail₀ cfgs (dats m) 0 (V0 m) [hostOps1] c main_v9) :=
  (θ_run _ _ _).mono (fun _ h c => (h c).2 main_v9 (by decide +kernel)) (run_main m g)

end Cert.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Result
public import Idealize.ShloMosaic.Adequacy
public import Idealize.ShloMosaic.Init
public import Idealize.ShloMosaic.Lib.Claim

@[expose] public section

noncomputable section

namespace Cert.Proof

open Idealize.ShloMosaic Idealize.SL.Sem

/-- One set of weights: the two programs' arguments agree. -/
theorem weights_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) : Cert.ReferenceIdeal.Value.weightsOf m' c = Cert.KernelIdeal.Value.weightsOf m c := by
  obtain ⟨-, h1, h2, h3, h4, h5, h6, h7, h8, h9, h10, h11, h12, h13, h14⟩ := h
  unfold Cert.ReferenceIdeal.Value.weightsOf Cert.KernelIdeal.Value.weightsOf
  rw [h1, h2, h3, h4, h5, h6, h7, h8, h9, h10, h11, h12, h13, h14]

theorem algebraic : Cert.algebraic_KernelIdeal_ReferenceIdeal_pre_tokens_and_weights := by
  intro m g m' g' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v9, ?_, ?_⟩
  · exact (θ_run _ _ _).mono (fun r h c => ⟨h.1 c, h.2 c⟩) (θ_run_and (Cert.Result.kernel_run m g) (Cert.KernelIdeal.Gen.unchanged m g))
  · exact (θ_run _ _ _).mono (fun r h c => ⟨(h.1 c Cert.ReferenceIdeal.main_v64 rfl).trans
      (Cert.Result.same hpre c (weights_eq c (hagree c)) (hagree c).1), h.2.1 c⟩)
      (θ_run_and (Cert.ReferenceIdeal.Value.run_fold m' g') (Cert.ReferenceIdeal.Value.frame m' g'))

theorem claim : Cert.Claim := ⟨Cert.Kernel.Gen.facts, Cert.KernelIdeal.Gen.facts, Cert.ReferenceIdeal.Gen.facts, Cert.Pre_tokens_and_weights.facts,
  fun m g _ => Cert.Kernel.Gen.frame m g,
  fun m g _ => Cert.KernelIdeal.Gen.frame m g,
  fun m g _ => Cert.KernelIdeal.Gen.frame m g,
  fun m g _ => Cert.ReferenceIdeal.Value.frame m g,
  fun m g _ => Cert.ReferenceIdeal.Value.frame m g,
  trivial,
  algebraic⟩

end Cert.Proof

end
